-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 512, 8, 64]⟩ ⟨4, ![8, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 512, 8, 64]⟩ ⟨4, ![8, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  bcast_S_S8x512x8x64 : S_.BroadcastsInDim S8x512x8x64 (![] : Fin 0 → Fin S8x512x8x64.rank)
  bcast_S8x1x8x64_S8x512x8x64_0_1_2_3 : S8x1x8x64.BroadcastsInDim S8x512x8x64 (![0, 1, 2, 3] : Fin 4 → Fin S8x512x8x64.rank)

variable [Facts]

def fn {F : FTy → Type} [FloatOps F] (main_arg0 : FVec F S8x1x8x64 .bf16) (main_arg1 : FVec F S8x512x8x64 .bf16) (main_arg2 : FVec F S8x512x8x64 .bf16) : IVec S8x512x8x64 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_v3 : FVec F S8x512x8x64 .bf16 := Host.absf main_arg1
  let main_cst_0 : FVec F S_ .bf16 := constant S_ .bf16 0x7F80#16
  let main_v4 : FVec F S8x512x8x64 .bf16 := broadcastInDim S8x512x8x64 ![] bcast_S_S8x512x8x64 main_cst_0
  let main_v5 : IVec S8x512x8x64 1 := cmpf .olt main_v3 main_v4
  let main_v6 : IVec S8x512x8x64 1 := broadcastInDim S8x512x8x64 ![0, 1, 2, 3] bcast_S8x1x8x64_S8x512x8x64_0_1_2_3 main_v2
  let main_v7 : IVec S8x512x8x64 1 := andi main_v6 main_v5
  main_v7
-- ==== Pre_finite_ReferenceIdeal.lean ====
abbrev S8x1x8x64 : Shape := ⟨4, ![8, 1, 8, 64]⟩
abbrev S8x1024x8x64 : Shape := ⟨4, ![8, 1024, 8, 64]⟩
abbrev S_ : Shape := ⟨0, ![]⟩

class Facts : Prop where
  bcast_S_S8x1x8x64 : S_.BroadcastsInDim S8x1x8x64 (![] : Fin 0 → Fin S8x1x8x64.rank)
  bcast_S_S8x1024x8x64 : S_.BroadcastsInDim S8x1024x8x64 (![] : Fin 0 → Fin S8x1024x8x64.rank)
  bcast_S8x1x8x64_S8x1024x8x64_0_1_2_3 : S8x1x8x64.BroadcastsInDim S8x1024x8x64 (![0, 1, 2, 3] : Fin 4 → Fin S8x1024x8x64.rank)

variable [Facts]

def fn {F : FTy → Type} [FloatOps F] (main_arg0 : FVec F S8x1x8x64 .bf16) (main_arg1 : FVec F S8x1024x8x64 .bf16) (main_arg2 : FVec F S8x1024x8x64 .bf16) : IVec S8x1024x8x64 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_v3 : FVec F S8x1024x8x64 .bf16 := Host.absf main_arg1
  let main_cst_0 : FVec F S_ .bf16 := constant S_ .bf16 0x7F80#16
  let main_v4 : FVec F S8x1024x8x64 .bf16 := broadcastInDim S8x1024x8x64 ![] bcast_S_S8x1024x8x64 main_cst_0
  let main_v5 : IVec S8x1024x8x64 1 := cmpf .olt main_v3 main_v4
  let main_v6 : IVec S8x1024x8x64 1 := broadcastInDim S8x1024x8x64 ![0, 1, 2, 3] bcast_S8x1x8x64_S8x1024x8x64_0_1_2_3 main_v2
  let main_v7 : IVec S8x1024x8x64 1 := andi main_v6 main_v5
  main_v7
-- ==== Kernel.lean ====
abbrev S8x1x8x64 : Shape := ⟨4, ![8, 1, 8, 64]⟩
abbrev S8x512x8x64 : Shape := ⟨4, ![8, 512, 8, 64]⟩
abbrev S1x1x8x64 : Shape := ⟨4, ![1, 1, 8, 64]⟩
abbrev S1x512x8x64 : Shape := ⟨4, ![1, 512, 8, 64]⟩
abbrev S8x8x64 : Shape := ⟨3, ![8, 8, 64]⟩
abbrev S8x8 : Shape := ⟨2, ![8, 8]⟩
abbrev S4096x8 : Shape := ⟨2, ![4096, 8]⟩
abbrev S2 : Shape := ⟨1, ![2]⟩
abbrev S512x8x64 : Shape := ⟨3, ![512, 8, 64]⟩
abbrev S4096x64 : Shape := ⟨2, ![4096, 64]⟩
abbrev S8x64 : Shape := ⟨2, ![8, 64]⟩
abbrev S64x8 : Shape := ⟨2, ![64, 8]⟩
abbrev S8 : Shape := ⟨1, ![8]⟩
abbrev S1x8x64 : Shape := ⟨3, ![1, 8, 64]⟩
abbrev S1x8 : Shape := ⟨2, ![1, 8]⟩
abbrev S_ : Shape := ⟨0, ![]⟩
abbrev S1 : Shape := ⟨1, ![1]⟩
abbrev S8x8x1 : Shape := ⟨3, ![8, 8, 1]⟩

abbrev nBuf : Space → Nat
  | .hbm => 4
  | .vmem => 12
  | .smem => 0
  | _ => 0

abbrev bufTy : (tb : Table) → Fin (tcTables nBuf tb) → BufTy
  | .hbm, ⟨0, _⟩ => ⟨S8x1x8x64, .bf16⟩
  | .hbm, ⟨1, _⟩ => ⟨S8x512x8x64, .bf16⟩
  | .hbm, ⟨2, _⟩ => ⟨S8x512x8x64, .bf16⟩
  | .hbm, ⟨3, _⟩ => ⟨S8x1x8x64, .f32⟩
  | .local _ .vmem, ⟨0, _⟩ => ⟨S1x1x8x64, .bf16⟩
  | .local _ .vmem, ⟨1, _⟩ => ⟨S1x1x8x64, .bf16⟩
  | .local _ .vmem, ⟨2, _⟩ => ⟨S1x512x8x64, .bf16⟩
  | .local _ .vmem, ⟨3, _⟩ => ⟨S1x512x8x64, .bf16⟩
  | .local _ .vmem, ⟨4, _⟩ => ⟨S1x512x8x64, .bf16⟩
  | .local _ .vmem, ⟨5, _⟩ => ⟨S1x512x8x64, .bf16⟩
  | .local _ .vmem, ⟨6, _⟩ => ⟨S8x1x8x64, .f32⟩
  | .local _ .vmem, ⟨7, _⟩ => ⟨S8x8x64, .f32⟩
  | .local _ .vmem, ⟨8, _⟩ => ⟨S8x8, .f32⟩
  | .local _ .vmem, ⟨9, _⟩ => ⟨S8x8x64, .f32⟩
  | .local _ .vmem, ⟨10, _⟩ => ⟨S8x8, .f32⟩
  | .local _ .vmem, ⟨11, _⟩ => ⟨S4096x8, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v20 : Index := Scalar.indexCast arg0
  let c0_17 : Index := 0#32
  let c0_18 : Index := 0#32
  ![v20.toNat, 0, 0]
def k0_off2 (i : grid0.Coords) : Fin 2 → Nat :=
  let arg0 : BitVec 32 := BitVec.ofNat 32 (i 0).val
  let v24 : Index := Scalar.indexCast arg0
  let c0_19 : Index := 0#32
  ![v24.toNat, 0]
def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_20 : BitVec 32 := 0#32
  let v30 : BitVec 1 := Scalar.cmpi .ne v29 c0_i32_20
  v30

def k0_dev1 (d31 : Dev nD) : Nat :=
  let c0_i32_26 : BitVec 32 := 0#32
  let v31 : BitVec 32 := Dev.word d31
  let c2_i32_21 : BitVec 32 := 2#32
  let v32 : BitVec 32 := Scalar.divsi v31 c2_i32_21
  let c2_i32 : BitVec 32 := 2#32
  let v33 : BitVec 32 := Scalar.remsi v32 c2_i32
  let c2_i32_25 : BitVec 32 := 2#32
  let v39 : BitVec 32 := Scalar.muli v33 c2_i32_25
  let v40 : BitVec 32 := Scalar.addi c0_i32_26 v39
  let c1_i32_23 : BitVec 32 := 1#32
  let v34 : BitVec 32 := Dev.word d31
  let c1_i32 : BitVec 32 := 1#32
  let v35 : BitVec 32 := Scalar.divsi v34 c1_i32
  let c2_i32_22 : BitVec 32 := 2#32
  let v36 : BitVec 32 := Scalar.remsi v35 c2_i32_22
  let v37 : BitVec 32 := Scalar.subi c1_i32_23 v36
  let c1_i32_27 : BitVec 32 := 1#32
  let v41 : BitVec 32 := Scalar.muli v37 c1_i32_27
  let v42 : BitVec 32 := Scalar.addi v40 v41
  v42.toNat
def k0_dev2 (d31 : Dev nD) : Nat :=
  let c0_i32_32 : BitVec 32 := 0#32
  let v31 : BitVec 32 := Dev.word d31
  let c2_i32_21 : BitVec 32 := 2#32
  let v32 : BitVec 32 := Scalar.divsi v31 c2_i32_21
  let c2_i32 : BitVec 32 := 2#32
  let v33 : BitVec 32 := Scalar.remsi v32 c2_i32
  let c2_i32_31 : BitVec 32 := 2#32
  let v43 : BitVec 32 := Scalar.muli v33 c2_i32_31
  let v44 : BitVec 32 := Scalar.addi c0_i32_32 v43
  let c1_i32_23 : BitVec 32 := 1#32
  let v34 : BitVec 32 := Dev.word d31
  let c1_i32 : BitVec 32 := 1#32
  let v35 : BitVec 32 := Scalar.divsi v34 c1_i32
  let c2_i32_22 : BitVec 32 := 2#32
  let v36 : BitVec 32 := Scalar.remsi v35 c2_i32_22
  let v37 : BitVec 32 := Scalar.subi c1_i32_23 v36
  let c1_i32_33 : BitVec 32 := 1#32
  let v45 : BitVec 32 := Scalar.muli v37 c1_i32_33
  let v46 : BitVec 32 := Scalar.addi v44 v45
  v46.toNat
def k0_dev3 (d31 : Dev nD) : Nat :=
  let c0_i32_37 : BitVec 32 := 0#32
  let v31 : BitVec 32 := Dev.word d31
  let c2_i32_21 : BitVec 32 := 2#32
  let v32 : BitVec 32 := Scalar.divsi v31 c2_i32_21
  let c2_i32 : BitVec 32 := 2#32
  let v33 : BitVec 32 := Scalar.remsi v32 c2_i32
  let c2_i32_36 : BitVec 32 := 2#32
  let v51 : BitVec 32 := Scalar.muli v33 c2_i32_36
  let v52 : BitVec 32 := Scalar.addi c0_i32_37 v51
  let c1_i32_23 : BitVec 32 := 1#32
  let v34 : BitVec 32 := Dev.word d31
  let c1_i32 : BitVec 32 := 1#32
  let v35 : BitVec 32 := Scalar.divsi v34 c1_i32
  let c2_i32_22 : BitVec 32 := 2#32
  let v36 : BitVec 32 := Scalar.remsi v35 c2_i32_22
  let v37 : BitVec 32 := Scalar.subi c1_i32_23 v36
  let c1_i32_38 : BitVec 32 := 1#32
  let v53 : BitVec 32 := Scalar.muli v37 c1_i32_38
  let v54 : BitVec 32 := Scalar.addi v52 v53
  v54.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1x8x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x8x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x8x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x8x64 : Shape := ⟨4, ![8, 1, 8, 64]⟩
abbrev S8x1024x8x64 : Shape := ⟨4, ![8, 1024, 8, 64]⟩
abbrev S8x8x1x1024 : Shape := ⟨4, ![8, 8, 1, 1024]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S8x1024x8x64, .bf16⟩
  | .hbm, ⟨2, _⟩ => ⟨S8x1024x8x64, .bf16⟩
  | .hbm, ⟨3, _⟩ => ⟨S8x1x8x64, .f32⟩
  | .hbm, ⟨4, _⟩ => ⟨S8x1024x8x64, .f32⟩
  | .hbm, ⟨5, _⟩ => ⟨S8x1024x8x64, .f32⟩
  | .hbm, ⟨6, _⟩ => ⟨S8x8x1x1024, .f32⟩
  | .hbm, ⟨7, _⟩ => ⟨S_, .f32⟩
  | .hbm, ⟨8, _⟩ => ⟨S8x8x1x1024, .f32⟩
  | .hbm, ⟨9, _⟩ => ⟨S8x8x1x1024, .f32⟩
  | .hbm, ⟨10, _⟩ => ⟨S_, .f32⟩
  | .hbm, ⟨11, _⟩ => ⟨S8x8x1, .f32⟩
  | .hbm, ⟨12, _⟩ => ⟨S8x8x1x1, .f32⟩
  | .hbm, ⟨13, _⟩ => ⟨S8x8x1x1024, .f32⟩
  | .hbm, ⟨14, _⟩ => ⟨S8x8x1x1024, .f32⟩
  | .hbm, ⟨15, _⟩ => ⟨S8x8x1x1024, .f32⟩
  | .hbm, ⟨16, _⟩ => ⟨S_, .f32⟩
  | .hbm, ⟨17, _⟩ => ⟨S8x8x1, .f32⟩
  | .hbm, ⟨18, _⟩ => ⟨S8x8x1x1, .f32⟩
  | .hbm, ⟨19, _⟩ => ⟨S8x8x1x1024, .f32⟩
  | .hbm, ⟨20, _⟩ => ⟨S8x8x1x1024, .f32⟩
  | .hbm, ⟨21, _⟩ => ⟨S8x8x64x1, .f32⟩
  | .hbm, ⟨22, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
The exchange between the two devices of a row of the mesh, as a one-round protocol.

Each device has five semaphore cells.

  bar    the barrier semaphore; paid once, one unit, by the row mate's signal. The landing brings the row mate's two
         landing buffers, holding anything, and the fact that the mate's two receive cells are at round 0.
  sndO   credited by the device's own copy of its numerators; gives the source buffer back as it was.
  sndL   the same for its own copy of its denominators.
  rcvO   credited by the row mate's copy of numerators; brings the landing buffer holding the mate's numerators.
  rcvL   the same for the mate's denominators.

A device waits on its own cells only: bar, then sndO, rcvO, sndL, rcvL. At launch it owes its mate the signal and the
two copies, and it owes nothing after the second copy has started.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.VecWindow
public import Idealize.ShloMosaic.Lib.Tactic

@[expose] public section

noncomputable section

namespace Cert.Decode

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds beside the exchange's -/

/-- The ghost state of the exchange: one schedule of rounds. -/
abbrev UX : Type := URounds (GSem nD τ sig) Unit
/-- The ghost state of the whole run: the pipeline's and the exchange's. -/
abbrev UU : Type := UR sig nD τ × UX

local notation "𝕄" => MT nD τ sig Unit (Elt F) ℕ UU ℕ

/-- Where the pipeline's ghost state lies in the whole. -/
abbrev EP : Emb (UR sig nD τ) (MT nD τ sig Unit (Elt F) ℕ UU ℕ) := embL
/-- Where the exchange's ghost state lies in the whole. -/
abbrev EX : Emb UX (MT nD τ sig Unit (Elt F) ℕ UU ℕ) := embR

variable (m : (ℓ : Loc nD τ sig) → Buf (Elt F) ℓ) (ρ : Dev nD → PrngReg)

/-! ## Row mates -/

/-- The other device of `c`'s row: same first mesh coordinate, the other second one. -/
def mate (c : Dev nD) : Dev nD := ⟨2 * (c.val / 2) + 1 - c.val % 2, by revert c; decide⟩

/-- The mate of a device's mate is the device itself. -/
theorem mate_mate (c : Dev nD) : mate (mate c) = c := by revert c; decide

/-- The three places where the kernel computes a device id all name the row mate. -/
theorem dev1_mate (i : grid0.Coords) (c : Dev nD) (h : k0_cond2 i = 1#1) : (⟨k0_dev1 c, k0_dev1_lt i c h⟩ : Dev nD) = mate c :=
  Fin.ext (k0_dev1_eq c)
/-- The first remote copy goes to the mate. -/
theorem dev2_mate (i : grid0.Coords) (c : Dev nD) (h : k0_cond2 i = 1#1) : (⟨k0_dev2 c, k0_dev2_lt i c h⟩ : Dev nD) = mate c :=
  Fin.ext (k0_dev2_eq c)
/-- The second remote copy goes to the mate. -/
theorem dev3_mate (i : grid0.Coords) (c : Dev nD) (h : k0_cond2 i = 1#1) : (⟨k0_dev3 c, k0_dev3_lt i c h⟩ : Dev nD) = mate c :=
  Fin.ext (k0_dev3_eq c)

/-- Trading places with the row mate, as a permutation of the devices. -/
def trade : Dev nD ≃ Dev nD := ⟨mate, mate, mate_mate, mate_mate⟩

/-! ## The cells -/

/-- The barrier semaphore. -/
abbrev barS : Sem sig := (SemArray.scalar (sig.barrier 0 rfl) : Sems sig S_).sem
/-- The semaphore on which the numerators' copy reports that it was sent. -/
abbrev sndO : DmaSem sig := ((cc0_scratch5.slice (Rect.unit (s := S2) ![0] S1.size inb_S2_S1_0) : DmaSems sig S1).squeeze S_ squeezes_S1_S_).sem
/-- The semaphore on which the denominators' copy reports that it was sent. -/
abbrev sndL : DmaSem sig := ((cc0_scratch5.slice (Rect.unit (s := S2) ![1] S1.size inb_S2_S1_1) : DmaSems sig S1).squeeze S_ squeezes_S1_S_).sem
/-- The semaphore on which the numerators' copy reports that it has landed. -/
abbrev rcvO : DmaSem sig := ((cc0_scratch6.slice (Rect.unit (s := S2) ![0] S1.size inb_S2_S1_0) : DmaSems sig S1).squeeze S_ squeezes_S1_S_).sem
/-- The semaphore on which the denominators' copy reports that it has landed. -/
abbrev rcvL : DmaSem sig := ((cc0_scratch6.slice (Rect.unit (s := S2) ![1] S1.size inb_S2_S1_1) : DmaSems sig S1).squeeze S_ squeezes_S1_S_).sem

/-- The five semaphores of the exchange on one device. -/
abbrev xsem : Fin 5 → SemLoc sig := fun
  | 0 => .reg barS | 1 => .dma sndO | 2 => .dma sndL | 3 => .dma rcvO | 4 => .dma rcvL

/-- The semaphore numbered `k` on device `c`. -/
abbrev xcell (c : Dev nD) (k : Fin 5) : GSem nD τ sig := ((c : Thread nD τ), xsem k)

/-- Which of the five a semaphore is, if any. -/
def which (s : SemLoc sig) : Option (Fin 5) :=
  if s = xsem 0 then some 0 else if s = xsem 1 then some 1 else if s = xsem 2 then some 2
  else if s = xsem 3 then some 3 else if s = xsem 4 then some 4 else none

/-- The number of a semaphore of the exchange is found again. -/
theorem which_xsem : ∀ k : Fin 5, which (xsem k) = some k := by decide

/-- Different numbers name different semaphores. -/
theorem xsem_inj : Function.Injective xsem := fun a b h => by
  have := congrArg which h
  rw [which_xsem, which_xsem] at this
  exact Option.some.inj this

/-! ## The buffers and what they hold -/

/-- Grid point number `b`, which handles batch `b`. -/
def pt (b : Fin 8) : Fin cfg0.N := ⟨b.val, by rw [show cfg0.N = 8 from N_0]; exact b.isLt⟩

/-- The block of the query, key and value arrays the pipeline stages at point `t`. -/
def qAt (c : Dev nD) (t : Fin cfg0.N) : Vec F S1x1x8x64 .bf16 := (win0_0.blk t).view.read (Elt F) (m ((c : Thread nD τ).loc main_arg0))
/-- The block of keys at a grid point. -/
def kAt (c : Dev nD) (t : Fin cfg0.N) : Vec F S1x512x8x64 .bf16 := (win0_1.blk t).view.read (Elt F) (m ((c : Thread nD τ).loc main_arg1))
/-- The block of values at a grid point. -/
def vAt (c : Dev nD) (t : Fin cfg0.N) : Vec F S1x512x8x64 .bf16 := (win0_2.blk t).view.read (Elt F) (m ((c : Thread nD τ).loc main_arg2))

/-- The row of numerators computed at point `t`, and the row of denominators. -/
def rowO (c : Dev nD) (t : Fin cfg0.N) : Vec F S1x8x64 .f32 := k0_pay4 (kAt m c t) (vAt m c t) (qAt m c t) k0_pay2
/-- The row of denominators that a grid point computes. -/
def rowL (c : Dev nD) (t : Fin cfg0.N) : Vec F S1x8 .f32 := k0_pay5 (kAt m c t) (qAt m c t) k0_pay2

/-- Position `x` of an accumulator, inside its row. -/
def inRow3 (x : S8x8x64.Idx) : S1x8x64.Idx := fun | 0 => (0 : Fin 1) | 1 => x 1 | 2 => x 2
/-- The place within its row of an entry of the denominators. -/
def inRow2 (x : S8x8.Idx) : S1x8.Idx := fun | 0 => (0 : Fin 1) | 1 => x 1

/-- Device `c`'s numerators after the last point, row `b` being what point `b` computed; and its denominators. -/
def numer (c : Dev nD) : Vec F S8x8x64 .f32 := fun x => rowO m c (pt (x 0)) (inRow3 x)
/-- All the denominators of a device, row by row. -/
def denom (c : Dev nD) : Vec F S8x8 .f32 := fun x => rowL m c (pt (x 0)) (inRow2 x)

/-- Buffer `b` of device `c` is held whole, with contents `f`. -/
def pts (c : Dev nD) (b : Ref sig .tc) (f : b.ty.Contents (Elt F)) : sProp 𝕄 :=
  (Memref.whole b).view.loc (c : Thread nD τ) ↦[(Memref.whole b).view.set]{fullShare} f

omit [FloatOps F] in
/-- The ownership of a buffer may be handed over through a semaphore. -/
instance pts_storable (c : Dev nD) (b : Ref sig .tc) (f) : BI.Storable (upEmb : UEmb _ 𝕄) (pts (F := F) c b f) := by unfold pts; infer_instance

omit [FloatOps F] in
/-- The ownership of a buffer, in the two ways in which it is written. -/
theorem pts_eq (c : Dev nD) (b : Ref sig .tc) (f : b.ty.Contents (Elt F)) :
    pts c b f = (((c : Thread nD τ).loc b) ↦{fullShare} f : sProp 𝕄) := by unfold pts; rw [View.set_whole]

omit [FloatOps F] in
/-- What a whole-buffer copy leaves at its destination is the source's contents. -/
theorem copy_whole (b b' : Ref sig .tc) (f : b.ty.Contents (Elt F)) (g : b'.ty.Contents (Elt F)) (w : b.ty.shape.Idx → Elt F b.ty.elt) (h : w = f) :
    (Memref.whole b).view.write (Elt F) f w Finset.univ = f := by
  subst h; exact View.write_whole_univ _ _ _

/-- The units that the numerators' copy adds to a semaphore. -/
abbrev NO : ℕ := (Memref.whole cc0_scratch2 : Memref sig .tc .vmem S8x8x64 .f32).view.dmaCredit
/-- The units that the denominators' copy adds to a semaphore. -/
abbrev NL : ℕ := (Memref.whole cc0_scratch3 : Memref sig .tc .vmem S8x8 .f32).view.dmaCredit
/-- The numerators' copy adds at least one unit. -/
theorem NO_pos : 0 < NO := View.dmaCredit_pos _ (by decide)
/-- The denominators' copy adds at least one unit. -/
theorem NL_pos : 0 < NL := View.dmaCredit_pos _ (by decide)

/-! ## The schedule -/

/-- What a landing on device `c`'s cell `k` amounts to, and -/
def amt : Fin 5 → ℕ := fun | 0 => 1 | 1 => NO | 2 => NL | 3 => NO | 4 => NL
/-- what it hands over. -/
def pay (c : Dev nD) : Fin 5 → sProp 𝕄 := fun
  | 0 => iprop((∃ f, pts (mate c) cc0_scratch2 f) ∗ (∃ f, pts (mate c) cc0_scratch3 f) ∗ reached EX (xcell (mate c) 3) 0 ∗ reached EX (xcell (mate c) 4) 0)
  | 1 => pts c cc0_scratch0 (numer m c)
  | 2 => pts c cc0_scratch1 (denom m c)
  | 3 => pts c cc0_scratch2 (numer m (mate c))
  | 4 => pts c cc0_scratch3 (denom m (mate c))

/-- Every semaphore of the exchange gets at least one unit. -/
theorem amt_pos : ∀ k : Fin 5, 0 < amt k := fun
  | 0 => Nat.one_pos | 1 => NO_pos | 2 => NL_pos | 3 => NO_pos | 4 => NL_pos

/-- What a semaphore hands over may be handed over. -/
instance pay_storable (c : Dev nD) (k : Fin 5) : BI.Storable (upEmb : UEmb _ 𝕄) (pay m c k) := by
  fin_cases k <;> dsimp only [pay] <;> infer_instance

/-- One round: each of the five cells of a device has one landing in it. -/
def plan : Rounds.Schedule (GSem nD τ sig) Unit 𝕄 where
  duties g r := if r = 0 ∧ g.1.2 = .tc then (match which g.2 with | some _ => {()} | none => ∅) else ∅
  unitless _ := False
  amount g _ _ := match which g.2 with | some k => amt k | none => 1
  payload g _ _ := match which g.2 with | some k => pay m g.1.1 k | none => iprop(emp)
  amount_pos g _ _ _ := by
    cases which g.2 with
    | none => exact Nat.one_pos
    | some k => exact amt_pos k

/-- What the schedule hands over, at any semaphore and round, may be handed over. -/
instance plan_payload_storable (g : GSem nD τ sig) (r : ℕ) (d : Unit) :
    BI.Storable (upEmb : UEmb _ 𝕄) ((plan (F := F) m).payload g r d) := by
  show BI.Storable upEmb (match which g.2 with | some k => pay m g.1.1 k | none => iprop(emp))
  cases which g.2 <;> infer_instance

section Tables
variable (c : Dev nD) (k : Fin 5)

/-- Every semaphore of the exchange has one duty in its first round. -/
theorem duties_x : (plan (F := F) m).duties (xcell c k) 0 = {()} := by
  dsimp only [plan]
  rw [if_pos ⟨rfl, rfl⟩, which_xsem]
/-- The one duty is among those of the first round. -/
theorem duty_mem : () ∈ (plan (F := F) m).duties (xcell c k) 0 := by rw [duties_x]; exact Finset.mem_singleton_self _
/-- No semaphore has a duty after its first round. -/
theorem duties_later (g : GSem nD τ sig) : ∀ r, 1 ≤ r → (plan (F := F) m).duties g r = ∅ :=
  fun r hr => if_neg fun h => by omega
/-- The amount of the one duty. -/
theorem amount_x (d : Unit) : (plan (F := F) m).amount (xcell c k) 0 d = amt k := by
  show (match which (xsem k) with | some k => amt k | none => 1) = _
  rw [which_xsem]
/-- The units that a wait in the first round takes. -/
theorem expect_x : (plan (F := F) m).expect (xcell c k) 0 = amt k := by
  unfold Schedule.expect Schedule.amountOf
  rw [duties_x, Finset.sum_singleton, amount_x]
/-- What the one duty hands over. -/
theorem payload_x (d : Unit) : (plan (F := F) m).payload (xcell c k) 0 d = pay m c k := by
  show (match which (xsem k) with | some k => pay m c k | none => iprop(emp)) = _
  rw [which_xsem]
/-- With no landing taken yet, the rest of a cell's round is its one payload. -/
theorem rest_x : bigSep ((plan (F := F) m).duties (xcell c k) 0 \ ∅) (fun d => (plan (F := F) m).payload (xcell c k) 0 d) = pay m c k := by
  rw [Finset.sdiff_empty, duties_x, bigSep_singleton, payload_x]

end Tables

/-! ## What a device owes, and the order of waiting -/

/-- What `c` still owes once its first copy has started; -/
def owe1 (c : Dev nD) : CellTallies nD τ sig Unit := tallyAt (xcell (mate c) 4) () NL
/-- after its signal; -/
def owe2 (c : Dev nD) : CellTallies nD τ sig Unit := owe1 c + tallyAt (xcell (mate c) 3) () NO
/-- and at launch. -/
def owe3 (c : Dev nD) : CellTallies nD τ sig Unit := owe2 c + tallyAt (xcell (mate c) 0) () 1

/-- The tags under which a semaphore may be owed. -/
def L (g : GSem nD τ sig) : Finset Unit := if g.1.2 = .tc then {()} else ∅

/-- Barrier cells come before receive cells; every other cell before both. -/
def lv (g : GSem nD τ sig) (_ : Unit) : ℕ :=
  match which g.2 with | some 0 => 1 | some 3 => 2 | some 4 => 2 | _ => 0

/-- Only a device's own thread has a tag. -/
theorem L_of_ne (g : GSem nD τ sig) (h : g.1.2 ≠ .tc) : L g = ∅ := if_neg h
/-- A device's own thread has the one tag. -/
theorem L_tc (c : Dev nD) (sm : SemLoc sig) : L ((c : Thread nD τ), sm) = {()} := if_pos rfl
/-- The one tag belongs to every semaphore of a device's own thread. -/
theorem mem_L (c : Dev nD) (sm : SemLoc sig) (u : Unit) : u ∈ L ((c : Thread nD τ), sm) := by rw [L_tc]; exact Finset.mem_singleton_self _

/-- The level of every semaphore of the exchange. -/
theorem lv_x (c : Dev nD) (k : Fin 5) (u : Unit) : lv (xcell c k) u = (match k with | 0 => 1 | 3 => 2 | 4 => 2 | _ => 0) := by
  show (match which (xsem k) with | some 0 => 1 | some 3 => 2 | some 4 => 2 | _ => 0) = _
  rw [which_xsem]; revert k; decide

/-- Units owed to one semaphore are owed to no other. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- What is owed after the barrier's signal is the two landings at the mate. -/
theorem owe2_pos {c : Dev nD} {g : GSem nD τ sig} {u : Unit} (h : 0 < owe2 c g u) : g = xcell (mate c) 3 ∨ g = xcell (mate c) 4 := by
  unfold owe2 owe1 at h
  rw [Pi.add_apply, Finsupp.add_apply] at h
  rcases Nat.add_pos_iff_pos_or_pos.mp h with h | h
  · exact .inr (tally_pos h)
  · exact .inl (tally_pos h)

/-- What is owed at first is the barrier's signal and the two landings at the mate. -/
theorem owe3_pos {c : Dev nD} {g : GSem nD τ sig} {u : Unit} (h : 0 < owe3 c g u) :
    g = xcell (mate c) 0 ∨ g = xcell (mate c) 3 ∨ g = xcell (mate c) 4 := by
  unfold owe3 at h
  rw [Pi.add_apply, Finsupp.add_apply] at h
  rcases Nat.add_pos_iff_pos_or_pos.mp h with h | h
  · exact .inr (owe2_pos h)
  · exact .inl (tally_pos h)

omit [FloatOps F] in
/-- A cell outside the exchange may be waited on whether the device owes everything or nothing. -/
theorem wait_outside (c : Dev nD) (q : DmaSem sig) (hq : which (.dma q) = none) (O : CellTallies nD τ sig Unit) (hO : O = owe3 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases owe3_pos hg with rfl | rfl | rfl <;> exact mem_L _ _ _)
      (fun p hp => by rw [Finset.mem_singleton.mp hp]; dsimp only [lv]; rw [hq])
      (fun g u hg => by rcases owe3_pos hg with rfl | rfl | rfl <;> rw [lv_x] <;> decide)
  · rw [MayWait_zero]; iintro -; iempintro

omit [FloatOps F] in
/-- At its barrier wait a device owes two receive cells, which come after the barrier. -/
theorem wait_barrier (c : Dev nD) : (levAts L lv : sProp 𝕄) ⊢ MayWait (c : Thread nD τ) (xsem 0) () (owe2 c) :=
  MayOwe.of_cut (L := L) (lev := lv) 1 (fun p hp => by rw [Finset.mem_singleton.mp hp]; exact mem_L _ _ _)
    (fun g u hg => by rcases owe2_pos hg with rfl | rfl <;> exact mem_L _ _ _)
    (fun p hp => by rw [Finset.mem_singleton.mp hp, show (((c : Thread nD τ), xsem 0) : GSem nD τ sig) = xcell c 0 from rfl, lv_x]; exact Nat.le_refl 1)
    (fun g u hg => by rcases owe2_pos hg with rfl | rfl <;> rw [lv_x] <;> decide)

end Cert.Decode

end
-- ==== Proof.Rows.lean ====
/-
The first part of the kernel's body: at grid point `t` it computes one row of numerators and one of denominators from
the staged blocks and stores them in the two accumulators. The block-diagonal mask is stored at the first point and
read at every point.
-/
module

public import proofs.«01_k».proof.Proof.Protocol

@[expose] public section

noncomputable section

namespace Cert.Decode

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No variants are used. -/
abbrev 𝒱₀ : Variants := Variants.none

/-! ## The grid -/

/-- The grid has one axis, and a point's coordinate is its number. -/
theorem coord_val : ∀ t : Fin grid0.N, (grid0.coords t 0).val = t.val := by decide
/-- A grid point is found again from its coordinate. -/
theorem pt_coord : ∀ t : Fin cfg0.N, pt (grid0.coords t 0) = t := by decide

/-- The mask is built at the first point only. -/
theorem first_iff : ∀ t : Fin grid0.N,
    Iff (Scalar.cmpi .ne (Scalar.extui (Scalar.cmpi .eq (BitVec.ofNat 32 (grid0.coords t 0).val) 0#32) : BitVec 32) 0#32 = 1#1) (t.val = 0) := by decide
/-- The exchange happens at the last point only. -/
theorem last_iff : ∀ t : Fin grid0.N, Iff (k0_cond2 (grid0.coords t) = 1#1) (t.val = 7) := by decide

/-! ## Storing one row -/

/-- The rows of the numerators before row `t` are done; -/
def DoneO (c : Dev nD) (t : ℕ) (f : Vec F S8x8x64 .f32) : Prop := ∀ x : S8x8x64.Idx, (x 0).val < t → f x = numer m c x
/-- the same of the denominators. -/
def DoneL (c : Dev nD) (t : ℕ) (f : Vec F S8x8 .f32) : Prop := ∀ x : S8x8.Idx, (x 0).val < t → f x = denom m c x

/-- When all eight rows are filled, the buffer holds the numerators. -/
theorem DoneO.all {c : Dev nD} {f : Vec F S8x8x64 .f32} (h : DoneO m c 8 f) : f = numer m c := funext fun x => h x (x 0).isLt
/-- When all eight rows are filled, the buffer holds the denominators. -/
theorem DoneL.all {c : Dev nD} {f : Vec F S8x8 .f32} (h : DoneL m c 8 f) : f = denom m c := funext fun x => h x (x 0).isLt

/-- Storing row `t` of the numerators finishes the rows before `t + 1`. -/
theorem DoneO.store {c : Dev nD} (t : Fin cfg0.N) {f : Vec F S8x8x64 .f32} (h : DoneO m c t.val f) :
    DoneO m c (t.val + 1) (((Memref.whole cc0_scratch0 : Memref sig .tc .vmem S8x8x64 .f32).access
      (Rect.unit (s := S8x8x64) (k0_off1 (grid0.coords t)) S1x8x64.size (k0_off1_inb (grid0.coords t))) : View sig .tc _ _ _).write (Elt F) f (rowO m c t) Finset.univ) := by
  intro x hx
  have h0 := coord_val t
  by_cases hxt : (x 0).val = t.val
  · have e : (((Memref.whole cc0_scratch0 : Memref sig .tc .vmem S8x8x64 .f32).access
        (Rect.unit (s := S8x8x64) (k0_off1 (grid0.coords t)) S1x8x64.size (k0_off1_inb (grid0.coords t))) : View sig .tc _ _ _).emb
          (inRow3 x)) = x := by
      funext a
      apply Fin.ext
      refine (Rect.emb_apply _ _ _).trans ?_
      have ho := congrFun (k0_off1_eq (grid0.coords t)) a
      refine (congrArg (· + 1 * _) ho).trans ?_
      fin_cases a
      · show (grid0.coords t 0).val + 1 * 0 = (x 0).val; omega
      · show 0 + 1 * (x 1).val = (x 1).val; omega
      · show 0 + 1 * (x 2).val = (x 2).val; omega
    conv_lhs => rw [← e]
    refine (View.write_emb_of_mem _ _ (Finset.mem_univ _)).trans ?_
    have hp : pt (x 0) = t := Fin.ext hxt
    unfold numer
    rw [hp]; rfl
  · refine (View.write_of_not_mem _ _ _ ?_).trans (h x (by omega))
    intro hm
    obtain ⟨y, -, hy⟩ := Finset.mem_map.mp hm
    have := congrArg (fun z : S8x8x64.Idx => (z 0).val) hy
    have h1 : k0_off1 (grid0.coords t) 0 + 1 * (y 0).val = (x 0).val := this
    have h2 : k0_off1 (grid0.coords t) 0 = (grid0.coords t 0).val := congrFun (k0_off1_eq (grid0.coords t)) 0
    have h3 : (y 0).val < 1 := (y 0).isLt
    omega

/-- Storing row `t` of the denominators finishes the rows before `t + 1`. -/
theorem DoneL.store {c : Dev nD} (t : Fin cfg0.N) {f : Vec F S8x8 .f32} (h : DoneL m c t.val f) :
    DoneL m c (t.val + 1) (((Memref.whole cc0_scratch1 : Memref sig .tc .vmem S8x8 .f32).access
      (Rect.unit (s := S8x8) (k0_off2 (grid0.coords t)) S1x8.size (k0_off2_inb (grid0.coords t))) : View sig .tc _ _ _).write (Elt F) f (rowL m c t) Finset.univ) := by
  intro x hx
  have h0 := coord_val t
  by_cases hxt : (x 0).val = t.val
  · have e : (((Memref.whole cc0_scratch1 : Memref sig .tc .vmem S8x8 .f32).access
        (Rect.unit (s := S8x8) (k0_off2 (grid0.coords t)) S1x8.size (k0_off2_inb (grid0.coords t))) : View sig .tc _ _ _).emb
          (inRow2 x)) = x := by
      funext a
      apply Fin.ext
      refine (Rect.emb_apply _ _ _).trans ?_
      have ho := congrFun (k0_off2_eq (grid0.coords t)) a
      refine (congrArg (· + 1 * _) ho).trans ?_
      fin_cases a
      · show (grid0.coords t 0).val + 1 * 0 = (x 0).val; omega
      · show 0 + 1 * (x 1).val = (x 1).val; omega
    conv_lhs => rw [← e]
    refine (View.write_emb_of_mem _ _ (Finset.mem_univ _)).trans ?_
    have hp : pt (x 0) = t := Fin.ext hxt
    unfold denom
    rw [hp]; rfl
  · refine (View.write_of_not_mem _ _ _ ?_).trans (h x (by omega))
    intro hm
    obtain ⟨y, -, hy⟩ := Finset.mem_map.mp hm
    have := congrArg (fun z : S8x8.Idx => (z 0).val) hy
    have h1 : k0_off2 (grid0.coords t) 0 + 1 * (y 0).val = (x 0).val := this
    have h2 : k0_off2 (grid0.coords t) 0 = (grid0.coords t 0).val := congrFun (k0_off2_eq (grid0.coords t)) 0
    have h3 : (y 0).val < 1 := (y 0).isLt
    omega

/-! ## The state between points -/

/-- Before point `t`: the rows before `t` of both accumulators are done, and past the first point the mask is in place. -/
def work (c : Dev nD) (t : ℕ) : sProp 𝕄 :=
  iprop((∃ f, ⌜DoneO m c t f⌝ ∗ pts c cc0_scratch0 f) ∗ (∃ f, ⌜DoneL m c t f⌝ ∗ pts c cc0_scratch1 f)
    ∗ (∃ f, ⌜0 < t → f = (k0_pay2 : Vec F S4096x8 .f32)⌝ ∗ pts c cc0_scratch4 f))

/-- Two zero offsets, as a constant function. -/
theorem hz2 : (![0, 0] : Fin 2 → Nat) = fun _ => 0 := funext fun a => by fin_cases a <;> rfl
/-- Three zero offsets, as a constant function. -/
theorem hz3 : (![0, 0, 0] : Fin 3 → Nat) = fun _ => 0 := funext fun a => by fin_cases a <;> rfl
/-- Four zero offsets, as a constant function. -/
theorem hz4 : (![0, 0, 0, 0] : Fin 4 → Nat) = fun _ => 0 := funext fun a => by fin_cases a <;> rfl

omit [FloatOps F] in
/-- A store over the whole mask buffer leaves what was stored. -/
theorem mask_stored (f w : Vec F S4096x8 .f32) :
    ((Memref.whole cc0_scratch4 : Memref sig .tc .vmem S4096x8 .f32).access
      (Rect.unit (s := S4096x8) ![0, 0] S4096x8.size inb_S4096x8_S4096x8_0_0) : View sig .tc _ _ _).write (Elt F) f w Finset.univ = w :=
  Memref.write_access_unit_zero_univ (Elt F) cc0_scratch4 hz2 _ f w

section Step
variable (c : Dev nD) (t : Fin cfg0.N)
  (M1 : Memref sig .tc .vmem S1x1x8x64 .bf16) (h1 : M1.IsWhole) (M2 : Memref sig .tc .vmem S1x512x8x64 .bf16) (h2 : M2.IsWhole)
  (M3 : Memref sig .tc .vmem S1x512x8x64 .bf16) (h3 : M3.IsWhole) (M4 : Memref sig .tc .vmem S8x1x8x64 .f32) (h4 : M4.IsWhole)

/-- The three staged blocks of point `t`. -/
def staged : sProp 𝕄 :=
  iprop(owns (c : Thread nD τ) M1 fullShare (qAt m c t) ∗ owns (c : Thread nD τ) M2 fullShare (kAt m c t) ∗ owns (c : Thread nD τ) M3 fullShare (vAt m c t))

set_option maxHeartbeats 1000000 in
/-- The first part of the body at point `t` takes the state before `t` to the state before `t + 1`, and leaves the
    staged blocks in place. -/
theorem row_step (Kt : PUnit → sProp 𝕄) :
    iprop(staged m c t M1 M2 M3 ∗ work m c t.val ∗ ((staged m c t M1 M2 M3 ∗ work m c (t.val + 1)) -∗ Kt ⟨⟩))
      ⊢ wp frame (wpE (defs₀ (F := F)) 𝒱₀ (c : Thread nD τ) none) Set.univ
          (k0_part2 (F := F) (grid0.coords t) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6) Kt := by
  rw [k0_part2_eq_skeleton]
  unfold k0_part2_skel
  dsimp only
  unfold staged work owns
  iintro ⟨⟨⟨%g1, %hg1, H1⟩, ⟨%g2, %hg2, H2⟩, ⟨%g3, %hg3, H3⟩⟩, ⟨⟨%fo, %hfo, HO⟩, ⟨%fl, %hfl, HL⟩, ⟨%fm, %hfm, HM⟩⟩, Hk⟩
  unfold pts
  have e1 : M1.view.readAt (Elt F) (Rect.unit (s := S1x1x8x64) ![0, 0, 0, 0] S1x1x8x64.size inb_S1x1x8x64_S1x1x8x64_0_0_0_0).toLoadRect g1 = qAt m c t :=
    (View.readAt_full M1.view g1 _).trans hg1
  have e2 : M2.view.readAt (Elt F) (Rect.unit (s := S1x512x8x64) ![0, 0, 0, 0] S1x512x8x64.size inb_S1x512x8x64_S1x512x8x64_0_0_0_0).toLoadRect g2 = kAt m c t :=
    (View.readAt_full M2.view g2 _).trans hg2
  have e3 : M3.view.readAt (Elt F) (Rect.unit (s := S1x512x8x64) ![0, 0, 0, 0] S1x512x8x64.size inb_S1x512x8x64_S1x512x8x64_0_0_0_0).toLoadRect g3 = vAt m c t :=
    (View.readAt_full M3.view g3 _).trans hg3
  have em : (Memref.whole cc0_scratch4 : Memref sig .tc .vmem S4096x8 .f32).view.readAt (Elt F) (Rect.unit (s := S4096x8) ![0, 0] S4096x8.size inb_S4096x8_S4096x8_0_0).toLoadRect (k0_pay2 : Vec F S4096x8 .f32) = k0_pay2 :=
    Memref.readAt_unit_zero (Elt F) cc0_scratch4 hz2 _ _
  by_cases ht : t.val = 0
  case' pos =>
    rw [dif_pos ((first_iff t).mpr ht)]
    simp only [Prog.lift, Prog.bind_op, Prog.bind_ret, Prog.pure_eq_ret]
    iapply (wp_load 𝒱₀ (c : Thread nD τ) none Set.univ (m := (Memref.whole cc0_scratch4 : Memref sig .tc .vmem S4096x8 .f32)) (View.setOn_subset_set _ _)) $$ HM; iintro HM
    iapply (wp_store 𝒱₀ (c : Thread nD τ) none Set.univ (m := (Memref.whole cc0_scratch4 : Memref sig .tc .vmem S4096x8 .f32)) (r := Rect.unit (s := S4096x8) ![0, 0] S4096x8.size inb_S4096x8_S4096x8_0_0) (Mk := Finset.univ) (by rw [View.set_whole]; exact Finset.subset_univ _)) $$ HM; iintro HM
    rw [mask_stored]
  case' neg =>
    rw [dif_neg fun h => ht ((first_iff t).mp h)]
    simp only [Prog.lift, Prog.bind_op, Prog.bind_ret, Prog.pure_eq_ret]
    obtain rfl := hfm (Nat.pos_of_ne_zero ht)
  all_goals
    iapply (wp_load 𝒱₀ (c : Thread nD τ) none Set.univ (m := M2) (View.setOn_subset_set _ _)) $$ H2; iintro H2
    rw [e2]
    iapply (wp_load 𝒱₀ (c : Thread nD τ) none Set.univ (m := M3) (View.setOn_subset_set _ _)) $$ H3; iintro H3
    rw [e3]
    iapply (wp_load 𝒱₀ (c : Thread nD τ) none Set.univ (m := M1) (View.setOn_subset_set _ _)) $$ H1; iintro H1
    rw [e1]
    iapply (wp_load 𝒱₀ (c : Thread nD τ) none Set.univ (m := (Memref.whole cc0_scratch4 : Memref sig .tc .vmem S4096x8 .f32)) (View.setOn_subset_set _ _)) $$ HM; iintro HM
    rw [em]
    iapply (wp_load 𝒱₀ (c : Thread nD τ) none Set.univ (m := (Memref.whole cc0_scratch0 : Memref sig .tc .vmem S8x8x64 .f32)) (View.setOn_subset_set _ _)) $$ HO; iintro HO
    iapply (wp_store 𝒱₀ (c : Thread nD τ) none Set.univ (m := (Memref.whole cc0_scratch0 : Memref sig .tc .vmem S8x8x64 .f32)) (r := Rect.unit (s := S8x8x64) (k0_off1 (grid0.coords t)) S1x8x64.size (k0_off1_inb (grid0.coords t))) (Mk := Finset.univ) (by rw [View.set_whole]; exact Finset.subset_univ _)) $$ HO; iintro HO
    iapply (wp_load 𝒱₀ (c : Thread nD τ) none Set.univ (m := (Memref.whole cc0_scratch1 : Memref sig .tc .vmem S8x8 .f32)) (View.setOn_subset_set _ _)) $$ HL; iintro HL
    iapply (wp_store 𝒱₀ (c : Thread nD τ) none Set.univ (m := (Memref.whole cc0_scratch1 : Memref sig .tc .vmem S8x8 .f32)) (r := Rect.unit (s := S8x8) (k0_off2 (grid0.coords t)) S1x8.size (k0_off2_inb (grid0.coords t))) (Mk := Finset.univ) (by rw [View.set_whole]; exact Finset.subset_univ _)) $$ HL; iintro HL
    rw [wp_ret]
    imodintro
    iapply Hk
    isplitl [H1 H2 H3]
    · isplitl [H1]; · iexists g1; isplitr; · (ipureintro; exact hg1)
                      iexact H1
      isplitl [H2]; · iexists g2; isplitr; · (ipureintro; exact hg2)
                      iexact H2
      iexists g3; isplitr; · (ipureintro; exact hg3)
      iexact H3
    isplitl [HO]
    · iexists _
      isplitr [HO]
      · ipureintro; exact DoneO.store m t hfo
      · iexact HO
    isplitl [HL]
    · iexists _
      isplitr [HL]
      · ipureintro; exact DoneL.store m t hfl
      · iexact HL
    iexists (k0_pay2 : Vec F S4096x8 .f32)
    isplitr; · (ipureintro; exact fun _ => rfl)
    iexact HM

end Step

end Cert.Decode

end
-- ==== Proof.Exchange.lean ====
/-
The kernel's body at one grid point. Before the last point it is the row step alone. At the last point the finished
accumulators are exchanged with the row mate and the quotient is stored in the result's block.
-/
module

public import proofs.«01_k».proof.Proof.Rows

@[expose] public section

noncomputable section

namespace Cert.Decode

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds for the exchange -/

/-- Facts every device may use: each cell of the exchange has its invariant, and is at round 0. -/
def records (K : Dev nD × Fin 5 → ℕ) : sProp 𝕄 :=
  iprop((bigSep Finset.univ fun ck : Dev nD × Fin 5 => cellInv EX (plan m) (K ck) (xcell ck.1 ck.2))
    ∗ bigSep Finset.univ fun ck : Dev nD × Fin 5 => reached EX (xcell ck.1 ck.2) 0)

/-- The record of the exchange may be used any number of times. -/
instance records_persistent (K : Dev nD × Fin 5 → ℕ) : BI.Persistent (records m K) := by unfold records; infer_instance

/-- The record holds the invariant of every semaphore of the exchange. -/
theorem inv_at (K : Dev nD × Fin 5 → ℕ) (c : Dev nD) (k : Fin 5) : records m K ⊢ cellInv EX (plan m) (K (c, k)) (xcell c k) := by
  unfold records
  iintro ⟨#HI, -⟩
  have h : (bigSep Finset.univ fun ck : Dev nD × Fin 5 => (cellInv EX (plan m) (K ck) (xcell ck.1 ck.2) : sProp 𝕄)) ⊢ cellInv EX (plan m) (K (c, k)) (xcell c k) :=
    bigSep_elim (Finset.mem_univ (c, k))
  iapply h; iexact HI

/-- The record holds that every semaphore of the exchange has reached its only round. -/
theorem reached_at (K : Dev nD × Fin 5 → ℕ) (c : Dev nD) (k : Fin 5) : records m K ⊢ reached EX (xcell c k) 0 := by
  unfold records
  iintro ⟨-, #HR⟩
  have h : (bigSep Finset.univ fun ck : Dev nD × Fin 5 => (reached EX (xcell ck.1 ck.2) 0 : sProp 𝕄)) ⊢ reached EX (xcell c k) 0 :=
    bigSep_elim (Finset.mem_univ (c, k))
  iapply h; iexact HR

/-- A device's positions in its own five cells. -/
def places (c : Dev nD) : sProp 𝕄 := bigSep Finset.univ fun k : Fin 5 => atPos EX (xcell c k) 0 ∅ 0

/-- The landings a device pays for: three on its row mate's cells, two on its own send cells. -/
def dues (c : Dev nD) : sProp 𝕄 :=
  iprop(dutyTok EX (xcell (mate c) 0) 0 () ∗ dutyTok EX (xcell c 1) 0 () ∗ dutyTok EX (xcell c 2) 0 ()
    ∗ dutyTok EX (xcell (mate c) 3) 0 () ∗ dutyTok EX (xcell (mate c) 4) 0 ())

/-- What a device knows and holds of the exchange, at some choice of invariant names. -/
def ghost (c : Dev nD) : sProp 𝕄 := iprop(∃ K, records m K ∗ places c ∗ dues c)

/-- All that device `c` starts the exchange with, but for the buffers: the ghost state, the credits it will wait for,
    and the order of waiting. -/
def start (c : Dev nD) : sProp 𝕄 :=
  iprop(ghost m c ∗ cred (tallyAt (xcell c 0) () 1) ∗ cred (tallyAt (xcell c 3) () NO) ∗ cred (tallyAt (xcell c 4) () NL) ∗ levAts L lv)

omit [FloatOps F] in
/-- A conjunction over the five semaphores, written out. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The five semaphores of device `c`, all at zero. -/
def zeros (c : Dev nD) : sProp 𝕄 := bigSep Finset.univ fun k : Fin 5 => semVal (xcell c k) 0

/-- The device's result block: the sum of the two numerators over the sum of the two denominators. -/
def quot (c : Dev nD) : Vec F S8x1x8x64 .f32 := k0_pay1 (denom m c) (denom m (mate c)) (numer m c) (numer m (mate c))

/-! ## The two copies -/

omit [FloatOps F] in
/-- A whole copy leaves the destination with the source's contents. -/
theorem landed_numer (f : (cc0_scratch2 : Ref sig .tc).ty.Contents (Elt F)) (g : (cc0_scratch0 : Ref sig .tc).ty.Contents (Elt F)) :
    (Memref.whole cc0_scratch2 : Memref sig .tc .vmem S8x8x64 .f32).view.write (Elt F) f
      ((Memref.whole cc0_scratch0 : Memref sig .tc .vmem S8x8x64 .f32).view.read (Elt F) g) Finset.univ = g := View.write_whole_univ _ _ _

omit [FloatOps F] in
/-- After the denominators' copy has landed, the landing buffer holds what was sent. -/
theorem landed_denom (f : (cc0_scratch3 : Ref sig .tc).ty.Contents (Elt F)) (g : (cc0_scratch1 : Ref sig .tc).ty.Contents (Elt F)) :
    (Memref.whole cc0_scratch3 : Memref sig .tc .vmem S8x8 .f32).view.write (Elt F) f
      ((Memref.whole cc0_scratch1 : Memref sig .tc .vmem S8x8 .f32).view.read (Elt F) g) Finset.univ = g := View.write_whole_univ _ _ _

section Copies
variable (K : Dev nD × Fin 5 → ℕ)

/-- Starting the copy of the numerators to the row mate. -/
theorem send_numer (c n : Dev nD) (hn : n = mate c) {hsc : (Memref.whole cc0_scratch2 : Memref sig (Dev.tc n : Thread nD τ).2.kind .vmem S8x8x64 .f32).view.ref.isScScratch = false}
    {hsrc : (Memref.whole cc0_scratch0 : Memref sig .tc .vmem S8x8x64 .f32).view.WordExact} {hdst : (Memref.whole cc0_scratch2 : Memref sig .tc .vmem S8x8x64 .f32).view.WordExact}
    {hsem : DmaTarget.Typed .vmem (.dma rcvO) (.remote (Dev.tc n : Thread nD τ) (Memref.whole cc0_scratch2 : Memref sig .tc .vmem S8x8x64 .f32) (.dma sndO) hsc)}
    {α : Type} {Q : α → sProp 𝕄} {k : PUnit → Prog (TpuEff nD τ sig (Elt F) Λ₀ .tc) α}
    (fn : (cc0_scratch2 : Ref sig .tc).ty.Contents (Elt F)) (W : Waits sig Unit) :
    iprop(cellInv EX (plan m) (K (c, 1)) (xcell c 1) ∗ cellInv EX (plan m) (K (mate c, 3)) (xcell (mate c) 3)
        ∗ pts c cc0_scratch0 (numer m c) ∗ pts (mate c) cc0_scratch2 fn
        ∗ owes (c : Thread nD τ) (owe2 c) W
        ∗ dutyTok EX (xcell c 1) 0 () ∗ reached EX (xcell c 1) 0
        ∗ dutyTok EX (xcell (mate c) 3) 0 () ∗ reached EX (xcell (mate c) 3) 0)
      ⊢ iprop(((cred (tallyAt (xcell c 1) () NO) ∗ owes (c : Thread nD τ) (owe1 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch0) (.remote (Dev.tc n : Thread nD τ) (Memref.whole cc0_scratch2) (.dma sndO) hsc) (.dma rcvO) hsrc hdst hsem) k) Q) := by
  subst hn
  have h1 : pts c cc0_scratch0 (numer m c) ⊢ (plan m).payload (xcell c 1) 0 () := by rw [payload_x]; exact BI.Entails.refl _
  have h2 : pts (mate c) cc0_scratch2 (numer m c) ⊢ (plan m).payload (xcell (mate c) 3) 0 () := by
    rw [payload_x]; show _ ⊢ pts (mate c) cc0_scratch2 (numer m (mate (mate c))); rw [mate_mate]
  have e1 : (plan (F := F) m).amount (xcell c 1) 0 () = NO := amount_x m c 1 ()
  have e2 : (plan (F := F) m).amount (xcell (mate c) 3) 0 () = NO := amount_x m (mate c) 3 ()
  have d1 := duty_mem (F := F) m c 1
  have d2 := duty_mem (F := F) m (mate c) 3
  have ho : owe2 c = owe1 c + tallyAt (xcell (mate c) 3) () NO := rfl
  generalize numer m c = w at *
  unfold pts at *
  rw [← landed_numer fn w] at h2
  rw [show xcell c 1 = ((c : Thread nD τ), .dma sndO) from rfl, show xcell (mate c) 3 = ((mate c : Thread nD τ), .dma rcvO) from rfl] at *
  exact Rounds.wp_send_pointsTo (Q := Q) (k := k) (hsrc := hsrc) (hdst := hdst) (hsem := hsem) (Es := Set.univ) (defs := defs₀ (F := F)) 𝒱₀ EX (plan m)
    (c : Thread nD τ) none (κ₁ := K (c, 1)) (κ₂ := K (mate c, 3)) (r₁ := 0) (r₂ := 0) (d₁ := ()) (d₂ := ()) (fd := fn) (fs := w) d1 d2
    () () NO rfl e1 e2 (O₀ := owe2 c) (owe1 c) ho (W := W) h1 h2

/-- Starting the copy of the denominators to the row mate. -/
theorem send_denom (c n : Dev nD) (hn : n = mate c) {hsc : (Memref.whole cc0_scratch3 : Memref sig (Dev.tc n : Thread nD τ).2.kind .vmem S8x8 .f32).view.ref.isScScratch = false}
    {hsrc : (Memref.whole cc0_scratch1 : Memref sig .tc .vmem S8x8 .f32).view.WordExact} {hdst : (Memref.whole cc0_scratch3 : Memref sig .tc .vmem S8x8 .f32).view.WordExact}
    {hsem : DmaTarget.Typed .vmem (.dma rcvL) (.remote (Dev.tc n : Thread nD τ) (Memref.whole cc0_scratch3 : Memref sig .tc .vmem S8x8 .f32) (.dma sndL) hsc)}
    {α : Type} {Q : α → sProp 𝕄} {k : PUnit → Prog (TpuEff nD τ sig (Elt F) Λ₀ .tc) α}
    (fn : (cc0_scratch3 : Ref sig .tc).ty.Contents (Elt F)) (W : Waits sig Unit) :
    iprop(cellInv EX (plan m) (K (c, 2)) (xcell c 2) ∗ cellInv EX (plan m) (K (mate c, 4)) (xcell (mate c) 4)
        ∗ pts c cc0_scratch1 (denom m c) ∗ pts (mate c) cc0_scratch3 fn
        ∗ owes (c : Thread nD τ) (owe1 c) W
        ∗ dutyTok EX (xcell c 2) 0 () ∗ reached EX (xcell c 2) 0
        ∗ dutyTok EX (xcell (mate c) 4) 0 () ∗ reached EX (xcell (mate c) 4) 0)
      ⊢ iprop(((cred (tallyAt (xcell c 2) () NL) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_scratch1) (.remote (Dev.tc n : Thread nD τ) (Memref.whole cc0_scratch3) (.dma sndL) hsc) (.dma rcvL) hsrc hdst hsem) k) Q) := by
  subst hn
  have h1 : pts c cc0_scratch1 (denom m c) ⊢ (plan m).payload (xcell c 2) 0 () := by rw [payload_x]; exact BI.Entails.refl _
  have h2 : pts (mate c) cc0_scratch3 (denom m c) ⊢ (plan m).payload (xcell (mate c) 4) 0 () := by
    rw [payload_x]; show _ ⊢ pts (mate c) cc0_scratch3 (denom m (mate (mate c))); rw [mate_mate]
  have e1 : (plan (F := F) m).amount (xcell c 2) 0 () = NL := amount_x m c 2 ()
  have e2 : (plan (F := F) m).amount (xcell (mate c) 4) 0 () = NL := amount_x m (mate c) 4 ()
  have d1 := duty_mem (F := F) m c 2
  have d2 := duty_mem (F := F) m (mate c) 4
  have ho : owe1 c = 0 + tallyAt (xcell (mate c) 4) () NL := by unfold owe1; rw [zero_add]
  generalize denom m c = w at *
  unfold pts at *
  rw [← landed_denom fn w] at h2
  rw [show xcell c 2 = ((c : Thread nD τ), .dma sndL) from rfl, show xcell (mate c) 4 = ((mate c : Thread nD τ), .dma rcvL) from rfl] at *
  exact Rounds.wp_send_pointsTo (Q := Q) (k := k) (hsrc := hsrc) (hdst := hdst) (hsem := hsem) (Es := Set.univ) (defs := defs₀ (F := F)) 𝒱₀ EX (plan m)
    (c : Thread nD τ) none (κ₁ := K (c, 2)) (κ₂ := K (mate c, 4)) (r₁ := 0) (r₂ := 0) (d₁ := ()) (d₂ := ()) (fd := fn) (fs := w) d1 d2
    () () NL rfl e1 e2 (O₀ := owe1 c) (0) ho (W := W) h1 h2

end Copies

/-! ## The body -/

omit [FloatOps F] in
/-- A store over the whole of a buffer leaves the stored value. -/
theorem stored_result (M : Memref sig .tc .vmem S8x1x8x64 .f32) (f : M.view.ref.ty.Contents (Elt F)) (w : S8x1x8x64.Idx → Elt F .f32) :
    M.view.read (Elt F) ((M.access (Rect.unit (s := S8x1x8x64) ![0, 0, 0, 0] S8x1x8x64.size inb_S8x1x8x64_S8x1x8x64_0_0_0_0) : View sig .tc _ _ _).write (Elt F) f w Finset.univ) = w :=
  (View.readAt_full M.view _ _).symm.trans (View.read_write_univ _ _)

/-- What a device holds of the exchange's scratch buffers before the last point: its landing buffers. -/
def landing (c : Dev nD) : sProp 𝕄 := iprop((∃ f, pts c cc0_scratch2 f) ∗ (∃ f, pts c cc0_scratch3 f))

/-- And the five scratch buffers after it. -/
def ended (c : Dev nD) : sProp 𝕄 :=
  iprop(pts c cc0_scratch0 (numer m c) ∗ pts c cc0_scratch1 (denom m c) ∗ pts c cc0_scratch2 (numer m (mate c)) ∗ pts c cc0_scratch3 (denom m (mate c))
    ∗ ∃ f, pts c cc0_scratch4 f)

section Body
attribute [local irreducible] numer denom
variable (c : Dev nD) (t : Fin cfg0.N)
variable (M1 : Memref sig .tc .vmem S1x1x8x64 .bf16) (h1 : M1.IsWhole) (M2 : Memref sig .tc .vmem S1x512x8x64 .bf16) (h2 : M2.IsWhole)
  (M3 : Memref sig .tc .vmem S1x512x8x64 .bf16) (h3 : M3.IsWhole) (M4 : Memref sig .tc .vmem S8x1x8x64 .f32) (h4 : M4.IsWhole)

/-- Before the last point the body is the row step. -/
theorem body_early (ht : t.val ≠ 7) (Kt : PUnit → sProp 𝕄) :
    iprop(staged m c t M1 M2 M3 ∗ work m c t.val ∗ ((staged m c t M1 M2 M3 ∗ work m c (t.val + 1)) -∗ Kt ⟨⟩))
      ⊢ wp frame (wpE (defs₀ (F := F)) 𝒱₀ (c : Thread nD τ) none) Set.univ
          (cc0__body (F := F) (grid0.coords t) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6) Kt := by
  rw [cc0__body_eq_skeleton]
  unfold cc0__body_skel
  rw [wp_bind]
  iintro ⟨Hs, Hw, Hk⟩
  iapply (row_step m c t M1 h1 M2 h2 M3 h3 M4 h4)
  isplitl [Hs]; · iexact Hs
  isplitl [Hw]; · iexact Hw
  iintro H
  rw [dif_neg fun h => ht ((last_iff t).mp h)]
  simp only [Prog.pure_eq_ret, Prog.bind_ret]
  rw [wp_ret]; imodintro
  iapply Hk; iexact H

set_option maxHeartbeats 400000 in
/-- At the last point the accumulators are exchanged: the device signals its mate that its landing buffers are free,
    waits for the mate's signal, copies numerators and denominators over, waits for both its copies and both of the
    mate's, and stores the quotient of the sums. -/
theorem body_last (ht : t.val = 7) (W : Waits sig Unit) (Kt : PUnit → sProp 𝕄) :
    iprop(staged m c t M1 M2 M3 ∗ work m c t.val ∗ start m c ∗ landing c ∗ owes (c : Thread nD τ) (owe3 c) W
        ∗ (∃ f : Buf (Elt F) (M4.view.loc (c : Thread nD τ)), M4.view.loc (c : Thread nD τ) ↦[M4.view.set]{fullShare} f)
        ∗ ((staged m c t M1 M2 M3 ∗ ended m c ∗ zeros c ∗ (∃ W', owes (c : Thread nD τ) 0 W') ∗ owns (c : Thread nD τ) M4 fullShare (quot m c)) -∗ Kt ⟨⟩))
      ⊢ wp frame (wpE (defs₀ (F := F)) 𝒱₀ (c : Thread nD τ) none) Set.univ
          (cc0__body (F := F) (grid0.coords t) M1 h1 M2 h2 M3 h3 M4 h4 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6) Kt := by
  rw [cc0__body_eq_skeleton]
  unfold cc0__body_skel
  rw [wp_bind]
  iintro ⟨Hs, Hw, Hst, Hland, HO, ⟨%f4, HR⟩, Hk⟩
  iapply (row_step m c t M1 h1 M2 h2 M3 h3 M4 h4)
  isplitl [Hs]; · iexact Hs
  isplitl [Hw]; · iexact Hw
  iintro ⟨Hs, Hw⟩
  rw [dif_pos ((last_iff t).mpr ht), k0_part1_eq_skeleton]
  unfold k0_part1_skel
  simp only [semSignalWord, semWaitWord, Prog.lift, Prog.bind_op, Prog.bind_ret, Prog.pure_eq_ret, wp_deviceId]
  rw [show t.val + 1 = 8 by omega]
  unfold work start ghost places dues landing
  rw [bigSep_fin5]
  icases Hw with ⟨⟨%fo, %hfo, Hno⟩, ⟨%fl, %hfl, Hde⟩, ⟨%fm, -, Hma⟩⟩
  obtain rfl := hfo.all
  obtain rfl := hfl.all
  icases Hst with ⟨⟨%K, #HK, ⟨Hp0, Hp1, Hp2, Hp3, Hp4⟩, Ht0, Ht1, Ht2, Ht3, Ht4⟩, Hc0, Hc3, Hc4, #Hlev⟩
  simp only [dev1_mate (grid0.coords t) c ((last_iff t).mpr ht)]
  -- the signal to the row mate: the landing buffers go with it
  iapply (Rounds.wp_signal 𝒱₀ EX (plan m) (c : Thread nD τ) none (dst := (mate c : Thread nD τ)) (κ := K (mate c, 0))
      (d := ()) (duty_mem m (mate c) 0) ((amount_x m (mate c) 0 ()).trans (by decide)) () (owe2 c) rfl)
    $$ [HO Ht0 Hland]
  · isplitr; · iapply (inv_at m K (mate c) 0); iexact HK
    isplitl [HO]; · iexact HO
    isplitl [Ht0]; · iexact Ht0
    isplitl [Hland]
    · rw [show (plan m).payload ((mate c : Thread nD τ), .reg barS) 0 () = pay m (mate c) 0 from payload_x m (mate c) 0 ()]
      dsimp only [pay]
      rw [mate_mate]
      icases Hland with ⟨Hl2, Hl3⟩
      isplitl [Hl2]; · iexact Hl2
      isplitl [Hl3]; · iexact Hl3
      isplitr; · iapply (reached_at m K c 3); iexact HK
      iapply (reached_at m K c 4); iexact HK
    · iapply (reached_at m K (mate c) 0); iexact HK
  iintro HO
  -- the wait for the mate's signal: its landing buffers come with it
  iapply (Rounds.wp_wait_rest_token 𝒱₀ EX (plan m) (c : Thread nD τ) none (κ := K (c, 0))
      (wpE_semWait_eq 𝒱₀ (c : Thread nD τ) none Set.univ) (Set.mem_univ _) () (O := owe2 c) (R := 0) (m := 0) (T := ∅)
      (by rw [Nat.zero_add]; exact (expect_x m c 0).symm)) $$ [Hc0 HO Hp0]
  · isplitr; · iapply (inv_at m K c 0); iexact HK
    isplitl [Hc0]; · iexact Hc0
    isplitl [HO]; · iexact HO
    isplitr; · iapply (wait_barrier c); iexact Hlev
    iexact Hp0
  iintro ⟨HO, Hp0, -, Hpay⟩
  ihave Hp := (Entails.of_eq (rest_x m c 0)) $$ Hpay
  dsimp only [pay]
  icases Hp with ⟨⟨%fn, Hn⟩, ⟨%fd, Hd⟩, #HrN, #HrD⟩
  -- the two copies to the mate
  iapply (send_numer m K c _ (dev2_mate (grid0.coords t) c ((last_iff t).mpr ht)) fn _) $$ [Hno Hn HO Ht1 Ht3]
  · isplitr; · iapply (inv_at m K c 1); iexact HK
    isplitr; · iapply (inv_at m K (mate c) 3); iexact HK
    isplitl [Hno]; · iexact Hno
    isplitl [Hn]; · iexact Hn
    isplitl [HO]; · iexact HO
    isplitl [Ht1]; · iexact Ht1
    isplitr; · iapply (reached_at m K c 1); iexact HK
    isplitl [Ht3]; · iexact Ht3
    iexact HrN
  iintro ⟨Hc1, HO⟩
  iapply (send_denom m K c _ (dev3_mate (grid0.coords t) c ((last_iff t).mpr ht)) fd _) $$ [Hde Hd HO Ht2 Ht4]
  · isplitr; · iapply (inv_at m K c 2); iexact HK
    isplitr; · iapply (inv_at m K (mate c) 4); iexact HK
    isplitl [Hde]; · iexact Hde
    isplitl [Hd]; · iexact Hd
    isplitl [HO]; · iexact HO
    isplitl [Ht2]; · iexact Ht2
    isplitr; · iapply (reached_at m K c 2); iexact HK
    isplitl [Ht4]; · iexact Ht4
    iexact HrD
  iintro ⟨Hc2, HO⟩
  -- its copy of the numerators has left
  iapply (Rounds.wp_wait_rest_token 𝒱₀ EX (plan m) (c : Thread nD τ) none (κ := K (c, 1)) (sm := .dma sndO)
      (wpE_waitDma2_eq 𝒱₀ (c : Thread nD τ) none Set.univ) (Set.mem_univ _) () (O := 0) (R := 0) (m := 0) (T := ∅)
      (by rw [Nat.zero_add]; exact (expect_x m c 1).symm)) $$ [Hc1 HO Hp1]
  · isplitr; · iapply (inv_at m K c 1); iexact HK
    isplitl [Hc1]; · iexact Hc1
    isplitl [HO]; · iexact HO
    isplitr; · rw [MayWait_zero]; iempintro
    iexact Hp1
  iintro ⟨HO, Hp1, -, Hpay⟩
  ihave Hno := (Entails.of_eq (rest_x m c 1)) $$ Hpay
  -- the mate's numerators have landed
  iapply (Rounds.wp_wait_rest_token 𝒱₀ EX (plan m) (c : Thread nD τ) none (κ := K (c, 3)) (sm := .dma rcvO)
      (wpE_waitDma2_eq 𝒱₀ (c : Thread nD τ) none Set.univ) (Set.mem_univ _) () (O := 0) (R := 0) (m := 0) (T := ∅)
      (by rw [Nat.zero_add]; exact (expect_x m c 3).symm)) $$ [Hc3 HO Hp3]
  · isplitr; · iapply (inv_at m K c 3); iexact HK
    isplitl [Hc3]; · iexact Hc3
    isplitl [HO]; · iexact HO
    isplitr; · rw [MayWait_zero]; iempintro
    iexact Hp3
  iintro ⟨HO, Hp3, -, Hpay⟩
  ihave Hno2 := (Entails.of_eq (rest_x m c 3)) $$ Hpay
  -- its copy of the denominators has left
  iapply (Rounds.wp_wait_rest_token 𝒱₀ EX (plan m) (c : Thread nD τ) none (κ := K (c, 2)) (sm := .dma sndL)
      (wpE_waitDma2_eq 𝒱₀ (c : Thread nD τ) none Set.univ) (Set.mem_univ _) () (O := 0) (R := 0) (m := 0) (T := ∅)
      (by rw [Nat.zero_add]; exact (expect_x m c 2).symm)) $$ [Hc2 HO Hp2]
  · isplitr; · iapply (inv_at m K c 2); iexact HK
    isplitl [Hc2]; · iexact Hc2
    isplitl [HO]; · iexact HO
    isplitr; · rw [MayWait_zero]; iempintro
    iexact Hp2
  iintro ⟨HO, Hp2, -, Hpay⟩
  ihave Hde := (Entails.of_eq (rest_x m c 2)) $$ Hpay
  -- the mate's denominators have landed
  iapply (Rounds.wp_wait_rest_token 𝒱₀ EX (plan m) (c : Thread nD τ) none (κ := K (c, 4)) (sm := .dma rcvL)
      (wpE_waitDma2_eq 𝒱₀ (c : Thread nD τ) none Set.univ) (Set.mem_univ _) () (O := 0) (R := 0) (m := 0) (T := ∅)
      (by rw [Nat.zero_add]; exact (expect_x m c 4).symm)) $$ [Hc4 HO Hp4]
  · isplitr; · iapply (inv_at m K c 4); iexact HK
    isplitl [Hc4]; · iexact Hc4
    isplitl [HO]; · iexact HO
    isplitr; · rw [MayWait_zero]; iempintro
    iexact Hp4
  iintro ⟨HO, Hp4, -, Hpay⟩
  ihave Hde2 := (Entails.of_eq (rest_x m c 4)) $$ Hpay
  -- every cell's one round is over: the counters are at zero
  imod (Rounds.cell_close EX (plan m) (Set.mem_univ (K (c, 0))) (fun h => h) (R := 0 + 1) (duties_later m (xcell c 0))) $$ [Hp0] with Hz0
  · isplitr; · iapply (inv_at m K c 0); iexact HK
    iexact Hp0
  imod (Rounds.cell_close EX (plan m) (Set.mem_univ (K (c, 1))) (fun h => h) (R := 0 + 1) (duties_later m (xcell c 1))) $$ [Hp1] with Hz1
  · isplitr; · iapply (inv_at m K c 1); iexact HK
    iexact Hp1
  imod (Rounds.cell_close EX (plan m) (Set.mem_univ (K (c, 2))) (fun h => h) (R := 0 + 1) (duties_later m (xcell c 2))) $$ [Hp2] with Hz2
  · isplitr; · iapply (inv_at m K c 2); iexact HK
    iexact Hp2
  imod (Rounds.cell_close EX (plan m) (Set.mem_univ (K (c, 3))) (fun h => h) (R := 0 + 1) (duties_later m (xcell c 3))) $$ [Hp3] with Hz3
  · isplitr; · iapply (inv_at m K c 3); iexact HK
    iexact Hp3
  imod (Rounds.cell_close EX (plan m) (Set.mem_univ (K (c, 4))) (fun h => h) (R := 0 + 1) (duties_later m (xcell c 4))) $$ [Hp4] with Hz4
  · isplitr; · iapply (inv_at m K c 4); iexact HK
    iexact Hp4
  dsimp only [pay]
  unfold pts
  -- the quotient of the sums is stored
  iapply (wp_load 𝒱₀ (c : Thread nD τ) none Set.univ (m := (Memref.whole cc0_scratch1 : Memref sig .tc .vmem S8x8 .f32)) (View.setOn_subset_set _ _)) $$ Hde; iintro Hde
  rw [show (Memref.whole cc0_scratch1 : Memref sig .tc .vmem S8x8 .f32).view.readAt (Elt F) (Rect.unit (s := S8x8) ![0, 0] S8x8.size inb_S8x8_S8x8_0_0).toLoadRect (denom m c) = denom m c from
    Memref.readAt_unit_zero (Elt F) cc0_scratch1 hz2 _ _]
  iapply (wp_load 𝒱₀ (c : Thread nD τ) none Set.univ (m := (Memref.whole cc0_scratch3 : Memref sig .tc .vmem S8x8 .f32)) (View.setOn_subset_set _ _)) $$ Hde2; iintro Hde2
  rw [show (Memref.whole cc0_scratch3 : Memref sig .tc .vmem S8x8 .f32).view.readAt (Elt F) (Rect.unit (s := S8x8) ![0, 0] S8x8.size inb_S8x8_S8x8_0_0).toLoadRect (denom m (mate c)) = denom m (mate c) from
    Memref.readAt_unit_zero (Elt F) cc0_scratch3 hz2 _ _]
  iapply (wp_load 𝒱₀ (c : Thread nD τ) none Set.univ (m := (Memref.whole cc0_scratch0 : Memref sig .tc .vmem S8x8x64 .f32)) (View.setOn_subset_set _ _)) $$ Hno; iintro Hno
  rw [show (Memref.whole cc0_scratch0 : Memref sig .tc .vmem S8x8x64 .f32).view.readAt (Elt F) (Rect.unit (s := S8x8x64) ![0, 0, 0] S8x8x64.size inb_S8x8x64_S8x8x64_0_0_0).toLoadRect (numer m c) = numer m c from
    Memref.readAt_unit_zero (Elt F) cc0_scratch0 hz3 _ _]
  iapply (wp_load 𝒱₀ (c : Thread nD τ) none Set.univ (m := (Memref.whole cc0_scratch2 : Memref sig .tc .vmem S8x8x64 .f32)) (View.setOn_subset_set _ _)) $$ Hno2; iintro Hno2
  rw [show (Memref.whole cc0_scratch2 : Memref sig .tc .vmem S8x8x64 .f32).view.readAt (Elt F) (Rect.unit (s := S8x8x64) ![0, 0, 0] S8x8x64.size inb_S8x8x64_S8x8x64_0_0_0).toLoadRect (numer m (mate c)) = numer m (mate c) from
    Memref.readAt_unit_zero (Elt F) cc0_scratch2 hz3 _ _]
  iapply (wp_load 𝒱₀ (c : Thread nD τ) none Set.univ (m := M4) (View.setOn_subset_set _ _)) $$ HR; iintro HR
  iapply (wp_store 𝒱₀ (c : Thread nD τ) none Set.univ (m := M4) (r := Rect.unit (s := S8x1x8x64) ![0, 0, 0, 0] S8x1x8x64.size inb_S8x1x8x64_S8x1x8x64_0_0_0_0)
    (Mk := Finset.univ) ((View.setOn_subset_set _ _).trans (View.set_slice_subset _ _))) $$ HR; iintro HR
  rw [wp_ret]; imodintro
  iapply Hk
  isplitl [Hs]; · iexact Hs
  isplitl [Hno Hde Hno2 Hde2 Hma]
  · unfold ended pts
    isplitl [Hno]; · iexact Hno
    isplitl [Hde]; · iexact Hde
    isplitl [Hno2]; · iexact Hno2
    isplitl [Hde2]; · iexact Hde2
    iexists fm; iexact Hma
  isplitl [Hz0 Hz1 Hz2 Hz3 Hz4]
  · unfold zeros
    rw [bigSep_fin5]
    isplitl [Hz0]; · iexact Hz0
    isplitl [Hz1]; · iexact Hz1
    isplitl [Hz2]; · iexact Hz2
    isplitl [Hz3]; · iexact Hz3
    iexact Hz4
  isplitl [HO]; · iexists _; iexact HO
  unfold owns
  iexists ((M4.access (Rect.unit (s := S8x1x8x64) ![0, 0, 0, 0] S8x1x8x64.size inb_S8x1x8x64_S8x1x8x64_0_0_0_0) : View sig .tc _ _ _).write (Elt F) f4 (quot m c) Finset.univ)
  isplitr [HR]
  · ipureintro; exact stored_result M4 _ _
  · iexact HR

end Body

end Cert.Decode

end
-- ==== Proof.Body.lean ====
/-
The pipeline's proof data, and the body obligation at every grid point.
-/
module

public import proofs.«01_k».proof.Proof.Exchange
public import proofs.«01_k».proof.Proof.Gen.KernelIdeal.Launch
public import proofs.«01_k».proof.Proof.Gen.KernelIdeal.Points
public import Idealize.ShloMosaic.Lib.Pipeline.Launch
public import Idealize.ShloMosaic.Lib.Pipeline.FrameBody

@[expose] public section

noncomputable section

namespace Cert.Decode

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before the grid point numbered `t`: all that the exchange needs, the accumulators as far as they are filled, the
    landing buffers. After the last point (`t = 8`): the buffers as the exchange leaves them, every counter at zero. -/
def between (c : Dev nD) (t : ℕ) : sProp 𝕄 :=
  if t < 8 then iprop(start m c ∗ work m c t ∗ landing c) else iprop(ended m c ∗ zeros c)

/-- What each device's pipeline holds: the arrays as launched, the blocks after each grid point, what lies between the points, and what is still owed. -/
def dats (_ : Fin 1) (c : Dev nD) : Dat τ (Elt F) Unit ℕ UU ℕ cfg0 c where
  A w := m ((cfg0.win w).arr.view.loc (c : Thread nD τ))
  after w t := match w with
    | ⟨0, _⟩ => qAt m c t
    | ⟨1, _⟩ => kAt m c t
    | ⟨2, _⟩ => vAt m c t
    | ⟨3, _⟩ => quot m c
  Φ t := between m c t.val
  q _ := fullShare
  owed t := if t.val < 8 then owe3 c else 0

/-- Before a grid point the first staged block is that point's block of the queries. -/
theorem before_q (c : Dev nD) (t : Fin cfg0.N) (d) : (dats m 0 c).before 0 t d = qAt m c t :=
  ((dats m 0 c).before_fetched 0 t (fetch0_0 t) d).trans (by unfold Dat.fetched Dat.blockOf; rfl)
/-- Before a grid point the second staged block is that point's block of the keys. -/
theorem before_k (c : Dev nD) (t : Fin cfg0.N) (d) : (dats m 0 c).before 1 t d = kAt m c t :=
  ((dats m 0 c).before_fetched 1 t (fetch0_1 t) d).trans (by unfold Dat.fetched Dat.blockOf; rfl)
/-- Before a grid point the third staged block is that point's block of the values. -/
theorem before_v (c : Dev nD) (t : Fin cfg0.N) (d) : (dats m 0 c).before 2 t d = vAt m c t :=
  ((dats m 0 c).before_fetched 2 t (fetch0_2 t) d).trans (by unfold Dat.fetched Dat.blockOf; rfl)

/-- The staging buffers the body is given at a point. -/
def given (c : Dev nD) (t : Fin cfg0.N) : sProp 𝕄 :=
  iprop((∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))

/-- And those it hands back: the inputs as they were, the result's as it must leave it. -/
def handed (c : Dev nD) (t : Fin cfg0.N) : sProp 𝕄 :=
  iprop(owns (c : Thread nD τ) (st0_0 t) fullShare (qAt m c t) ∗ owns (c : Thread nD τ) (st0_1 t) fullShare (kAt m c t)
    ∗ owns (c : Thread nD τ) (st0_2 t) fullShare (vAt m c t) ∗ (dats m 0 c).leavesExact 3 t)

/-- What the pipeline gives a grid point holds the three input blocks, and the result's block with some contents. -/
theorem given_inputs (c : Dev nD) (t : Fin cfg0.N) :
    given m c t ⊢ iprop(staged m c t (st0_0 t) (st0_1 t) (st0_2 t) ∗ ∃ d, owns (c : Thread nD τ) (st0_3 t) fullShare ((dats m 0 c).before 3 t d)) := by
  unfold given staged
  iintro ⟨⟨%d0, H0⟩, ⟨%d1, H1⟩, ⟨%d2, H2⟩, H3⟩
  rw [before_q, before_k, before_v]
  isplitr [H3]
  · isplitl [H0]; · iexact H0
    isplitl [H1] <;> iassumption
  · iexact H3

/-- The body at a grid point before the last: one more row of the two accumulators is filled. -/
theorem step_early (c : Dev nD) (t : Fin cfg0.N) (ht : t.val ≠ 7) :
    iprop(between m c t.val ∗ (dats m 0 c).owesAt () t.castSucc ∗ given m c t)
      ⊢ wp frame (wpE (defs₀ (F := F)) 𝒱₀ (c : Thread nD τ) none) Set.univ (bodyAt0 (F := F) t)
          fun _ => iprop(between m c (t.val + 1) ∗ (dats m 0 c).owesAt () t.succ ∗ handed m c t) := by
  have hN : t.val < 8 := Nat.lt_of_lt_of_eq t.isLt N_0
  unfold between
  rw [if_pos hN, if_pos (show t.val + 1 < 8 by omega)]
  unfold Dat.owesAt Pipeline.owesWithin
  rw [show (dats m 0 c).owed t.succ = owe3 c from if_pos (show t.val + 1 < 8 by omega), show (dats m 0 c).owed t.castSucc = owe3 c from if_pos hN]
  iintro ⟨⟨Hs, Hw, Hl⟩, ⟨%W, -, HO⟩, Hg⟩
  ihave Hg := (given_inputs m c t) $$ Hg
  icases Hg with ⟨Hi, H3⟩
  iapply (body_early m c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) ht)
  isplitl [Hi]; · iexact Hi
  isplitl [Hw]; · iexact Hw
  iintro ⟨Hi, Hw⟩
  isplitl [Hs Hw Hl]
  · isplitl [Hs]; · iexact Hs
    isplitl [Hw] <;> iassumption
  isplitl [HO]
  · iexists W
    isplitr; · ipureintro; exact fun _ _ => Or.inl trivial
    iexact HO
  unfold handed staged
  icases Hi with ⟨H0, H1, H2⟩
  isplitl [H0]; · iexact H0
  isplitl [H1]; · iexact H1
  isplitl [H2]; · iexact H2
  rw [(dats m 0 c).leavesExact_idle 3 t
    (show (!(k0_cond2 (grid0.coords t) == 1#1)) = true by
      rw [Bool.not_eq_true', beq_eq_false_iff_ne]; exact fun h => ht ((last_iff t).mp h))
    (Bool.eq_false_iff.mpr fun h => ht (by have := (flush0_3 t).mp h; omega))]
  iexact H3

/-- The body at the last grid point: the last row is filled, the exchange runs, and the quotient is stored. -/
theorem step_last (c : Dev nD) (t : Fin cfg0.N) (ht : t.val = 7) :
    iprop(between m c t.val ∗ (dats m 0 c).owesAt () t.castSucc ∗ given m c t)
      ⊢ wp frame (wpE (defs₀ (F := F)) 𝒱₀ (c : Thread nD τ) none) Set.univ (bodyAt0 (F := F) t)
          fun _ => iprop(between m c (t.val + 1) ∗ (dats m 0 c).owesAt () t.succ ∗ handed m c t) := by
  unfold between
  rw [if_pos (show t.val < 8 by omega), if_neg (show ¬ t.val + 1 < 8 by omega)]
  unfold Dat.owesAt Pipeline.owesWithin
  rw [show (dats m 0 c).owed t.succ = 0 from if_neg (show ¬ t.val + 1 < 8 by omega), show (dats m 0 c).owed t.castSucc = owe3 c from if_pos (show t.val < 8 by omega)]
  iintro ⟨⟨Hs, Hw, Hl⟩, ⟨%W, -, HO⟩, Hg⟩
  ihave Hg := (given_inputs m c t) $$ Hg
  unfold owns
  icases Hg with ⟨Hi, ⟨%d3, %g3, -, H3⟩⟩
  iapply (body_last m c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) ht W)
  isplitl [Hi]; · iexact Hi
  isplitl [Hw]; · iexact Hw
  isplitl [Hs]; · iexact Hs
  isplitl [Hl]; · iexact Hl
  isplitl [HO]; · iexact HO
  isplitl [H3]; · iexists g3; iexact H3
  iintro ⟨Hi, He, Hz, ⟨%W', HO⟩, H3⟩
  isplitl [He Hz]
  · isplitl [He] <;> iassumption
  isplitl [HO]
  · iexists W'
    isplitr; · ipureintro; exact fun _ _ => Or.inl trivial
    iexact HO
  unfold handed staged
  icases Hi with ⟨H0, H1, H2⟩
  isplitl [H0]; · iexact H0
  isplitl [H1]; · iexact H1
  isplitl [H2]; · iexact H2
  have hf : (cfg0.win 3).flush t = true := (flush0_3 t).mpr (by omega)
  unfold Dat.leavesExact
  rw [show cfg0.idle 3 (cfg0.grid.coords t) = false from by
    show (!(k0_cond2 (grid0.coords t) == 1#1)) = false
    rw [(last_iff t).mpr ht]; rfl]
  iexact H3

/-- What the pipeline asks of the body, at every point of every device. -/
theorem body_obligation (c : Dev nD) : BodyObligation (dats (F := F) m 0 c) (defs₀ (F := F)) 𝒱₀ () Set.univ := fun t => by
  rw [bigSep_W0, bigSep_W0]
  show iprop(between m c t.val ∗ (dats m 0 c).owesAt () t.castSucc ∗ given m c t)
      ⊢ wp frame (wpE (defs₀ (F := F)) 𝒱₀ (c : Thread nD τ) none) Set.univ (bodyAt0 (F := F) t)
          fun _ => iprop(between m c (t.val + 1) ∗ (dats m 0 c).owesAt () t.succ ∗ handed m c t)
  by_cases ht : t.val = 7
  · exact step_last m c t ht
  · exact step_early m c t ht

end Cert.Decode

end
-- ==== Proof.Run.lean ====
/-
The whole run: four devices, their ghost state dealt at launch, and what every final state satisfies.
-/
module

public import proofs.«01_k».proof.Proof.Body
public import Idealize.ShloMosaic.Lib.Pipeline.CollectiveSegs

@[expose] public section

noncomputable section

namespace Cert.Decode

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Dealing the ghost state -/

/-- The four semaphores the kernel allocates, as the launch numbers them. -/
def osem : Fin 4 → SemLoc sig := fun | 0 => xsem 1 | 1 => xsem 2 | 2 => xsem 3 | 3 => xsem 4

/-- The kernel's own semaphores are none of the pipeline's. -/
theorem ownSemFacts : Pipeline.OwnSemFacts cfg0.spec osem := by decide

/-- Every array is held in full. -/
theorem share_full (c : Dev nD) (w : Fin cfg0.W) : (dats m 0 c).share w = fullShare := by unfold Dat.share; split <;> rfl

/-- The cell of a device and a semaphore number. -/
abbrev cell (ck : Dev nD × Fin 5) : GSem nD τ sig := xcell ck.1 ck.2

/-- The same semaphore lies on the same device. -/
theorem xcell_dev {c c' : Dev nD} {k k' : Fin 5} (h : xcell c k = xcell c' k') : c = c' :=
  congrArg (fun g : GSem nD τ sig => g.1.1) h
/-- The same semaphore has the same number. -/
theorem xcell_num {c c' : Dev nD} {k k' : Fin 5} (h : xcell c k = xcell c' k') : k = k' :=
  xsem_inj (congrArg Prod.snd h)

/-- Different pairs of a device and a number name different semaphores. -/
theorem cell_injective : Function.Injective cell := fun a b h => Prod.ext (xcell_dev h) (xcell_num h)

/-- Every cell of the exchange, and its one duty. -/
def allCells : Finset (GSem nD τ sig) := Finset.univ.map ⟨cell, cell_injective⟩
/-- The one duty of a semaphore. -/
abbrev duty (ck : Dev nD × Fin 5) : GSem nD τ sig × ℕ × Unit := (cell ck, 0, ())
/-- Different semaphores have different duties. -/
theorem duty_injective : Function.Injective duty := fun a b h => cell_injective (congrArg Prod.fst h)
/-- The duties of all devices' semaphores. -/
def allDuties : Finset (GSem nD τ sig × ℕ × Unit) := Finset.univ.map ⟨duty, duty_injective⟩

/-- The ghost state at the launch. -/
def u₀ : UU :=
  (initOf (Pipeline.cells cfgs cellOf_inj) (Pipeline.launchToks cfgs cellOf_inj), initOf allCells allDuties)

/-- What the launch hands device `c`, for its own five cells: their state, its positions, the marks, the duties. -/
def dealt (c : Dev nD) : sProp 𝕄 :=
  iprop((bigSep Finset.univ fun k : Fin 5 => roundState EX (plan m) (xcell c k) 0) ∗ places c
    ∗ (bigSep Finset.univ fun k : Fin 5 => reached EX (xcell c k) 0) ∗ bigSep Finset.univ fun k : Fin 5 => dutyTok EX (xcell c k) 0 ())

/-- The exchange's ghost state at the launch, dealt out semaphore by semaphore. -/
theorem fund_exchange : BI.own (EX (initOf allCells allDuties)) ⊢ (|==> bigSep Finset.univ (dealt m) : sProp 𝕄) := by
  have hX (Φ : GSem nD τ sig → sProp 𝕄) : bigSep allCells Φ = bigSep Finset.univ fun c : Dev nD => bigSep Finset.univ fun k : Fin 5 => Φ (xcell c k) := by
    unfold allCells; rw [bigSep_map, bigSep_univ_prod]; rfl
  have hT : bigSep allDuties (fun x => (dutyTok EX x.1 x.2.1 x.2.2 : sProp 𝕄))
      = bigSep Finset.univ fun c : Dev nD => bigSep Finset.univ fun k : Fin 5 => dutyTok EX (xcell c k) 0 () := by
    unfold allDuties; rw [bigSep_map, bigSep_univ_prod]; rfl
  iintro HX
  imod (Rounds.fund EX (plan m) allCells allDuties) $$ HX with ⟨Hst, Hr, Hat, Htok⟩
  imodintro
  ihave Hst := (Entails.of_eq (hX fun g => roundState EX (plan m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold dealt places
  simp only [bigSep_sep']
  isplitl [Hst]; · iexact Hst
  isplitl [Hat]; · iexact Hat
  isplitl [Hr]; · iexact Hr
  iexact Htok

/-- The kernel's own semaphores at zero, written one by one. -/
theorem own_zero (c : Dev nD) : (Pipeline.ownSems0 (Ix := Unit) (Name := ℕ) (U := UU) (Lvl := ℕ) (Val := Elt F) (τ := τ) osem c : sProp 𝕄)
    = iprop(semVal (xcell c 1) 0 ∗ semVal (xcell c 2) 0 ∗ semVal (xcell c 3) 0 ∗ semVal (xcell c 4) 0) := by
  rw [Pipeline.ownSems0_eq_of_list c osem [0, 1, 2, 3] (by decide) (by decide)]; rfl

/-- The barrier semaphore at zero. -/
theorem barrier_zero (c : Dev nD) : (unscopedSems0 c : sProp 𝕄) = semVal (xcell c 0) 0 := by
  unfold unscopedSems0; rw [bigSep_eq_bigSepL_of_eq [xsem 0] (by decide) (by decide)]; rfl

/-- The runtime's counter and the kernel's four are the five counters at zero. -/
theorem zeros_eq (c : Dev nD) :
    iprop(unscopedSems0 c ∗ Pipeline.ownSems0 (Ix := Unit) (Name := ℕ) (U := UU) (Lvl := ℕ) (Val := Elt F) (τ := τ) osem c) = (zeros c : sProp 𝕄) := by
  unfold zeros
  rw [own_zero, barrier_zero, bigSep_fin5]

/-- One device's cells get their invariants. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 5 => iprop(∃ κ : ℕ, cellInv EX (plan m) κ (xcell c k))) ∗ places c
          ∗ (bigSep Finset.univ fun k : Fin 5 => reached EX (xcell c k) 0) ∗ bigSep Finset.univ fun k : Fin 5 => dutyTok EX (xcell c k) 0 ()) := by
  have hopen : iprop(zeros c ∗ bigSep Finset.univ fun k : Fin 5 => roundState EX (plan m) (xcell c k) 0)
      ⊢ (|={Set.univ}=> bigSep Finset.univ fun k : Fin 5 => iprop(∃ κ : ℕ, cellInv EX (plan m) κ (xcell c k)) : sProp 𝕄) := by
    unfold zeros
    rw [← bigSep_sep']
    exact (bigSep_mono fun k _ => (Rounds.body_intro EX (plan m) (xcell c k)).trans inv_alloc).trans (bigSep_fupd _ _)
  unfold dealt
  iintro ⟨Hown, Hbar, Hst, Hrest⟩
  ihave Hz := (Entails.of_eq (zeros_eq (F := F) c)) $$ [Hown Hbar]
  · isplitl [Hbar] <;> iassumption
  imod hopen $$ [Hz Hst] with Hinv
  · isplitl [Hz] <;> iassumption
  imodintro
  isplitl [Hinv] <;> iassumption

/-- The duties re-dealt by payer: those on the barrier and receive cells change places with the row mate's. -/
theorem trade_duties :
    (bigSep Finset.univ fun c : Dev nD => bigSep Finset.univ fun k : Fin 5 => (dutyTok EX (xcell c k) 0 () : sProp 𝕄)) ⊢ bigSep Finset.univ fun c : Dev nD => dues c := by
  have h5 : (fun c : Dev nD => bigSep Finset.univ fun k : Fin 5 => (dutyTok EX (xcell c k) 0 () : sProp 𝕄)) = fun c =>
      iprop(dutyTok EX (xcell c 0) 0 () ∗ dutyTok EX (xcell c 1) 0 () ∗ dutyTok EX (xcell c 2) 0 () ∗ dutyTok EX (xcell c 3) 0 () ∗ dutyTok EX (xcell c 4) 0 ()) :=
    funext fun c => bigSep_fin5 _
  rw [h5]
  unfold dues
  simp only [bigSep_sep']
  rw [bigSep_univ_equiv trade (fun c : Dev nD => (dutyTok EX (xcell c 0) 0 () : sProp 𝕄)),
    bigSep_univ_equiv trade (fun c : Dev nD => (dutyTok EX (xcell c 3) 0 () : sProp 𝕄)),
    bigSep_univ_equiv trade (fun c : Dev nD => (dutyTok EX (xcell c 4) 0 () : sProp 𝕄))]
  exact BI.Entails.refl _

/-- Every device gets the facts about all cells, its positions and the duties it pays. -/
theorem deal :
    (bigSep Finset.univ fun c : Dev nD => iprop((bigSep Finset.univ fun k : Fin 5 => iprop(∃ κ : ℕ, cellInv EX (plan m) κ (xcell c k))) ∗ places c
          ∗ (bigSep Finset.univ fun k : Fin 5 => reached EX (xcell c k) 0) ∗ bigSep Finset.univ fun k : Fin 5 => dutyTok EX (xcell c k) 0 ()) : sProp 𝕄)
      ⊢ bigSep Finset.univ (ghost m) := by
  rw [bigSep_sep', bigSep_sep', bigSep_sep', ← bigSep_univ_prod (fun ck : Dev nD × Fin 5 => iprop(∃ κ : ℕ, cellInv EX (plan m) κ (xcell ck.1 ck.2))),
    ← bigSep_univ_prod (fun ck : Dev nD × Fin 5 => (reached EX (xcell ck.1 ck.2) 0 : sProp 𝕄))]
  iintro ⟨HI, Hat, #HR, Htok⟩
  ihave HK := (BI.bigSep_exists_pi Finset.univ (fun (ck : Dev nD × Fin 5) (κ : ℕ) => (cellInv EX (plan m) κ (xcell ck.1 ck.2) : sProp 𝕄))) $$ HI
  icases HK with ⟨%K, #HI⟩
  ihave Hdue := (trade_duties (F := F)) $$ Htok
  have hone : ∀ c ∈ (Finset.univ : Finset (Dev nD)), iprop(records m K ∗ (places c ∗ dues c)) ⊢ ghost m c := fun c _ => by
    unfold ghost; iintro H; iexists K; iexact H
  have hall : iprop(records m K ∗ bigSep Finset.univ fun c : Dev nD => (iprop(places c ∗ dues c) : sProp 𝕄)) ⊢ bigSep Finset.univ (ghost m) :=
    (sep_mono_left (BI.bigSep_of_persistent Finset.univ (records m K))).trans (by rw [← bigSep_sep']; exact bigSep_mono hone)
  iapply hall
  isplitr
  · unfold records; isplitl; · iexact HI
    iexact HR
  · rw [bigSep_sep']
    isplitl [Hat] <;> iassumption

/-- From all the semaphores at zero and the ghost state at the launch, what each device starts with. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => open_cells m c).trans (bigSep_fupd _ _)).trans (BI.fupd_mono (deal m))

/-! ## The credits of the launch -/

/-- What device `d` owes cell `k` of device `c`: one landing, if `k` is a barrier or a receive cell and `d` the row mate. -/
theorem owed_to (d c : Dev nD) (k : Fin 5) (hk : k = 0 ∨ k = 3 ∨ k = 4) : owe3 d (xcell c k) () = if d = mate c then amt k else 0 := by
  have hd : ∀ (j : Fin 5) (n : ℕ), (tallyAt (xcell (mate d) j) () n : CellTallies nD τ sig Unit) (xcell c k) () = if d = mate c ∧ k = j then n else 0 := fun j n => by
    rw [tallyAt_apply]
    refine if_congr ⟨fun h => ⟨?_, xcell_num h.1⟩, fun h => ⟨?_, rfl⟩⟩ rfl rfl
    · rw [xcell_dev h.1, mate_mate]
    · rw [h.1, mate_mate, h.2]
  unfold owe3 owe2 owe1
  rw [Pi.add_apply, Finsupp.add_apply, Pi.add_apply, Finsupp.add_apply, hd, hd, hd]
  by_cases h : d = mate c
  · rcases hk with rfl | rfl | rfl <;> simp [h, amt]
  · simp [h]

/-- What the launch grants for a semaphore of the exchange. -/
theorem launch_x (c : Dev nD) (k : Fin 5) (hk : k = 0 ∨ k = 3 ∨ k = 4) :
    tallyOn (xcell c k) (launchCredit (Pipeline.owing owe3) 0 (xcell c k)) = (tallyAt (xcell c k) () (amt k) : CellTallies nD τ sig Unit) := by
  unfold tallyAt; refine congrArg _ (Finsupp.ext fun u => ?_); cases u
  rw [Pipeline.launchCredit_owing, Finsupp.single_eq_same, Finset.sum_congr rfl fun d _ => owed_to d c k hk,
    Finset.sum_ite_eq' Finset.univ (mate c) fun _ => amt k, if_pos (Finset.mem_univ _)]

/-- The credits with which a device starts. -/
theorem creds (c : Dev nD) :
    (Pipeline.launchCred owe3 c : sProp 𝕄) ⊢ iprop(cred (tallyAt (xcell c 0) () 1) ∗ cred (tallyAt (xcell c 3) () NO) ∗ cred (tallyAt (xcell c 4) () NL)) := by
  unfold Pipeline.launchCred
  have h30 : xsem 3 ≠ xsem 0 := fun h => by have := xsem_inj h; omega
  have h40 : xsem 4 ≠ xsem 0 := fun h => by have := xsem_inj h; omega
  have h43 : xsem 4 ≠ xsem 3 := fun h => by have := xsem_inj h; omega
  rw [bigSep_univ_at _ (xsem 0), bigSep_erase (Finset.mem_erase.mpr ⟨h30, Finset.mem_univ (xsem 3)⟩)]
  have e0 : (cred (tallyOn (xcell c 0) (launchCredit (Pipeline.owing owe3) 0 (xcell c 0))) : sProp 𝕄) ⊢ cred (tallyAt (xcell c 0) () 1) :=
    Entails.of_eq (congrArg cred (launch_x c 0 (Or.inl rfl)))
  have e3 : (cred (tallyOn (xcell c 3) (launchCredit (Pipeline.owing owe3) 0 (xcell c 3))) : sProp 𝕄) ⊢ cred (tallyAt (xcell c 3) () NO) :=
    Entails.of_eq (congrArg cred (launch_x c 3 (Or.inr (Or.inl rfl))))
  have e4 : (cred (tallyOn (xcell c 4) (launchCredit (Pipeline.owing owe3) 0 (xcell c 4))) : sProp 𝕄) ⊢ cred (tallyAt (xcell c 4) () NL) :=
    Entails.of_eq (congrArg cred (launch_x c 4 (Or.inr (Or.inr rfl))))
  exact BI.sep_mono e0 (BI.sep_mono e3 ((bigSep_elim (Finset.mem_erase.mpr ⟨h43, Finset.mem_erase.mpr ⟨h40, Finset.mem_univ (xsem 4)⟩⟩)).trans e4))

/-! ## In and out of the pipeline -/

/-- A device's start, put together from what the launch gives it. -/
theorem start_intro (c : Dev nD) :
    iprop(Pipeline.unscopedRestP Pipeline.Prefetch.none cfg0.spec c (fun b => m ((c : Thread nD τ).loc b)) ∗ levAts L lv
        ∗ Pipeline.launchCred owe3 c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H0, H3, H4⟩
  imodintro
  unfold start
  isplitl
  · isplitl [HG]; · iexact HG
    isplitl [H0]; · iexact H0
    isplitl [H3]; · iexact H3
    isplitl [H4] <;> iassumption
  · iempintro

/-- What a device starts with is what its pipeline needs before the first grid point. -/
theorem entry (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = between m c 0 from rfl, scopedRest0_eq]
  unfold between
  rw [if_pos (show 0 < 8 by decide)]
  unfold work landing
  simp only [pts_eq]
  iintro ⟨Hs, -, ⟨%f0, H0⟩, ⟨%f1, H1⟩, H2, H3, ⟨%f4, H4⟩⟩
  isplitl [Hs]; · iexact Hs
  isplitl [H0 H1 H4]
  · isplitl [H0]
    · iexists f0; isplitr
      · ipureintro; exact fun x hx => absurd hx (Nat.not_lt_zero _)
      · iexact H0
    isplitl [H1]
    · iexists f1; isplitr
      · ipureintro; exact fun x hx => absurd hx (Nat.not_lt_zero _)
      · iexact H1
    iexists f4; isplitr
    · ipureintro; exact fun hx => absurd hx (Nat.lt_irrefl 0)
    · iexact H4
  isplitl [H2] <;> iassumption

/-- After the last grid point the buffers and the semaphores are given back, the semaphores at zero. -/
theorem exit (c : Dev nD) :
    (dats m 0 c).Φ (Fin.last cfg0.N) ⊢ iprop(unscopedSems0 c ∗ Pipeline.ownSems0 osem c ∗ Pipeline.scopedRest cfg0.spec c) := by
  have hN : ¬ (Fin.last cfg0.N).val < 8 := by rw [Fin.val_last]; exact Nat.not_lt.mpr (Nat.le_of_eq N_0.symm)
  rw [show (dats m 0 c).Φ (Fin.last cfg0.N) = between m c (Fin.last cfg0.N).val from rfl, scopedRest0_eq]
  unfold between
  rw [if_neg hN, ← zeros_eq]
  unfold ended
  simp only [pts_eq]
  iintro ⟨⟨H0, H1, H2, H3, H4⟩, Hu, Ho⟩
  isplitl [Hu]; · iexact Hu
  isplitl [Ho]; · iexact Ho
  isplitl [H0]; · iexists _; iexact H0
  isplitl [H1]; · iexists _; iexact H1
  isplitl [H2]; · iexists _; iexact H2
  isplitl [H3]; · iexists _; iexact H3
  iexact H4

/-- The pipeline's own waits are allowed beside everything that is owed. -/
theorem waits (c : Dev nD) : (levAts L lv : sProp 𝕄) ⊢ Pipeline.cellsWaits cfgs (dats m) () 0 c :=
  Pipeline.cellsWaits_intro cfgs (dats m) () 0 c fun w s t =>
    wait_outside c _ (by fin_cases w <;> fin_cases s <;> decide) _ (by
      show (if t.val < 8 then owe3 c else 0) = owe3 c ∨ (if t.val < 8 then owe3 c else 0) = 0
      split
      · exact Or.inl rfl
      · exact Or.inr rfl)

/-! ## The run -/

/-- What the arrays hold at the end. -/
def final (c : Dev nD) (w : Fin cfg0.W) : Buf (Elt F) ((cfg0.win w).arr.view.loc (c : Thread nD τ)) := (dats m 0 c).arrAt w cfg0.N

/-- What the run ends in: each device's result is the quotient, and its inputs are as they were. -/
def Ends : PUnit × MemSt nD τ sig (Elt F) → Prop := fun r =>
  ∀ c : Dev nD, ∀ w : Fin cfg0.W, r.2.mem ((cfg0.win w).arr.view.loc (c : Thread nD τ)) = final m c w

/-- From any memory with zero counters, under every fair schedule, the four devices' programs end; each array then holds
    what the pipeline's data say, and every counter is back at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owe3) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := entry m) (hout := exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays end as they began. -/
theorem final_in (c : Dev nD) (w : Fin cfg0.W) (hw : (cfg0.win w).isOut = false) : final m c w = m ((cfg0.win w).arr.view.loc (c : Thread nD τ)) :=
  (dats (F := F) m 0 c).arrAt_in w hw _

end Cert.Decode

end
-- ==== Proof.Frames.lean ====
/-
The three frames: kernel and idealized kernel from the one run, the reference from its own.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Decode

open Idealize.ShloMosaic Idealize.ShloMosaic.TcCoe Idealize.SL.Sem

/-- The idealized kernel over any float values ends, keeps its three arguments, and leaves every counter at zero. -/
theorem kept {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem (c.tc.loc KernelIdeal.main_arg0) = m (c.tc.loc KernelIdeal.main_arg0)
        ∧ r.2.mem (c.tc.loc KernelIdeal.main_arg1) = m (c.tc.loc KernelIdeal.main_arg1)
        ∧ r.2.mem (c.tc.loc KernelIdeal.main_arg2) = m (c.tc.loc KernelIdeal.main_arg2))
      ∧ r.2.sem = fun _ => 0) :=
  (θ_run KernelIdeal.defs _ _).mono
    (fun r h => ⟨fun c => ⟨(h.1 c 0).trans (final_in m c 0 rfl), (h.1 c 1).trans (final_in m c 1 rfl), (h.1 c 2).trans (final_in m c 2 rfl)⟩, h.2⟩)
    (run_main m ρ)

/-- The kernel and the idealized kernel have one program text, so their body tables are equal. -/
theorem same_body {F : FTy → Type} [FloatOps F] : Kernel.defs₀ (F := F) = KernelIdeal.defs₀ (F := F) := by
  unfold Kernel.defs₀ KernelIdeal.defs₀
  congr 1
  funext l x
  match l, x with
  | 0, (_, _) => rfl

/-- So are the tables with the launch in them. -/
theorem same_defs {F : FTy → Type} [FloatOps F] : Kernel.defs (F := F) = KernelIdeal.defs (F := F) :=
  congrArg (Pipeline.defs _) same_body

/-- The kernel over the machine's words: the same program text, so the same run. -/
theorem frame_kernel : Cert.quiescent_Kernel := fun m ρ _ => by
  rw [same_defs]
  exact kept (F := Bits) m ρ

/-- The idealized kernel over the extended reals. -/
theorem frame_ideal : Cert.quiescent_KernelIdeal := fun m ρ _ => kept (F := Ideal) m ρ

/-- The reference ends, keeps its arguments, and leaves every counter at zero. -/
theorem frame_reference : Cert.quiescent_ReferenceIdeal := fun m ρ _ =>
  (θ_run Cert.ReferenceIdeal.defs _ _).mono
    (fun _ h => ⟨fun c => (h c).2, sem_eq_zero_of_no_sems (by decide) _⟩) (Cert.ReferenceIdeal.Value.run m ρ)

/-- The shapes fit in the precondition over one device's part of the arrays. -/
instance finite_kernel_facts : Cert.Pre_finite_KernelIdeal.Facts where
  bcast_S_S8x1x8x64 := by decide
  bcast_S_S8x512x8x64 := by decide
  bcast_S8x1x8x64_S8x512x8x64_0_1_2_3 := by decide

/-- The shapes fit in the precondition over the whole arrays. -/
instance finite_reference_facts : Cert.Pre_finite_ReferenceIdeal.Facts where
  bcast_S_S8x1x8x64 := by decide
  bcast_S_S8x1024x8x64 := by decide
  bcast_S8x1x8x64_S8x1024x8x64_0_1_2_3 := by decide

end Cert.Decode

end
-- ==== Proof.KernelValue.lean ====
/-
What the kernel leaves in its result array, over the extended reals, as a formula in the devices' argument arrays.
-/
module

public import proofs.«01_k».proof.Proof.Run
public import Idealize.ShloMosaic.Lib.Pointwise
public import Idealize.ShloMosaic.Lib.Pipeline.ValueKit

@[expose] public section

noncomputable section

namespace Cert.Decode

open Cert.KernelIdeal Cert.KernelIdeal.Gen
open Idealize.ShloMosaic Idealize.ShloMosaic.TcCoe Idealize.SL.Sem

section AnyFloat

variable {F : FTy → Type} [FloatOps F]
variable (m : (ℓ : Loc nD τ sig) → Buf (Elt F) ℓ)

/-! ## Blocks: grid point `b` stages batch `b` of each argument, and the result is staged whole -/

/-- The queries' block at a grid point is the batch row of that number. -/
theorem index_q : ∀ t : Fin cfg0.N, win0_0.index t 0 = t.val ∧ win0_0.index t 1 = 0 ∧ win0_0.index t 2 = 0 ∧ win0_0.index t 3 = 0 := by
  decide +kernel
/-- The keys' block at a grid point is the batch row of that number. -/
theorem index_k : ∀ t : Fin cfg0.N, win0_1.index t 0 = t.val ∧ win0_1.index t 1 = 0 ∧ win0_1.index t 2 = 0 ∧ win0_1.index t 3 = 0 := by
  decide +kernel
/-- The values' block at a grid point is the batch row of that number. -/
theorem index_v : ∀ t : Fin cfg0.N, win0_2.index t 0 = t.val ∧ win0_2.index t 1 = 0 ∧ win0_2.index t 2 = 0 ∧ win0_2.index t 3 = 0 := by
  decide +kernel
/-- The result's block is the whole array, at every grid point. -/
theorem index_out : ∀ t : Fin cfg0.N, win0_3.index t 0 = 0 ∧ win0_3.index t 1 = 0 ∧ win0_3.index t 2 = 0 ∧ win0_3.index t 3 = 0 := by
  decide +kernel

/-- The staged query block, in the query array. -/
theorem q_at (c : Dev nD) (b : Fin 8) (h : Fin 8) (d : Fin 64) :
    qAt m c (pt b) (ix4 0 0 h d) = m ((c : Thread nD τ).loc main_arg0) (ix4 b 0 h d) := by
  obtain ⟨e0, e1, e2, e3⟩ := index_q (pt b)
  have hb : (pt b).val = b.val := rfl
  unfold qAt
  blk_ext <;> omega

/-- The staged key block, in the device's key array. -/
theorem k_at (c : Dev nD) (b : Fin 8) (i : Fin 512) (h : Fin 8) (d : Fin 64) :
    kAt m c (pt b) (ix4 0 i h d) = m ((c : Thread nD τ).loc main_arg1) (ix4 b i h d) := by
  obtain ⟨e0, e1, e2, e3⟩ := index_k (pt b)
  have hb : (pt b).val = b.val := rfl
  unfold kAt
  blk_ext <;> omega

/-- The staged value block, in the device's value array. -/
theorem v_at (c : Dev nD) (b : Fin 8) (i : Fin 512) (h : Fin 8) (d : Fin 64) :
    vAt m c (pt b) (ix4 0 i h d) = m ((c : Thread nD τ).loc main_arg2) (ix4 b i h d) := by
  obtain ⟨e0, e1, e2, e3⟩ := index_v (pt b)
  have hb : (pt b).val = b.val := rfl
  unfold vAt
  blk_ext <;> omega

/-- The result array ends holding the quotient. -/
theorem final_out (c : Dev nD) : final m c 3 = quot m c := by
  unfold final
  refine (dats m 0 c).arrAt_eq_of_covers 3 _ (by decide +kernel) fun t hf y => ?_
  obtain ⟨e0, e1, e2, e3⟩ := index_out t
  blk_simp
  refine congrArg (quot m c) ?_
  funext a
  apply Fin.ext
  match a with
  | ⟨0, _⟩ => blk_simp; omega
  | ⟨1, _⟩ => blk_simp; omega
  | ⟨2, _⟩ => blk_simp; omega
  | ⟨3, _⟩ => blk_simp; omega

end AnyFloat

/-! ## The payloads at an index -/

/-- The remainder of a row number by 8, as the kernel takes it on words. -/
theorem row_rem : ∀ r : Fin 4096,
    IntOp.remsi ArithUnit.vector (BitVec.ofNat 32 r.val) (Scalar.select (Scalar.cmpi CmpIPredicate.eq 8#32 0#32) 1#32 8#32)
      = BitVec.ofNat 32 (r.val % 8) := by
  decide +kernel

/-- The kernel's test whether a remainder `a` (its sign put right first) is the head `h`, as a number. -/
theorem head_word : ∀ a h : Fin 8,
    (BitVec.setWidth 32
        (IntOp.cmpi CmpIPredicate.eq
          (Scalar.select
            (IntOp.andi
              (IntOp.xori (IntOp.cmpi CmpIPredicate.slt (BitVec.ofNat 32 a.val) 0#32)
                (Scalar.cmpi CmpIPredicate.slt (Scalar.select (Scalar.cmpi CmpIPredicate.eq 8#32 0#32) 1#32 8#32) 0#32))
              (IntOp.cmpi CmpIPredicate.ne (BitVec.ofNat 32 a.val) 0#32))
            (IntOp.addi (BitVec.ofNat 32 a.val) (Scalar.select (Scalar.cmpi CmpIPredicate.eq 8#32 0#32) 1#32 8#32))
            (BitVec.ofNat 32 a.val))
          (BitVec.ofNat 32 h.val))).toInt = if a.val = h.val then 1 else 0 := by
  decide +kernel

/-- The mask: entry `(r, h)` is 1 where row `r` of the flattened keys belongs to head `h`, else 0. -/
theorem mask_at (r : Fin 4096) (h : Fin 8) : (k0_pay2 (F := Ideal)) (ix2 r h) = if r.val % 8 = h.val then 1 else 0 := by
  have e := head_word ⟨r.val % 8, Nat.mod_lt _ (by decide)⟩ h
  pointwise [k0_pay2]
  rw [row_rem]
  refine (congrArg (fun z : ℤ => ((z : ℝ) : EReal)) e).trans ?_
  dsimp only
  split_ifs <;> simp

/-- The score of key `i` for head `h` in batch `b`, the query scaled first, on one device. -/
def score (Q : S8x1x8x64.Idx → EReal) {n : ℕ} (K : (⟨4, ![8, n, 8, 64]⟩ : Shape).Idx → EReal) (b : Fin 8) (h : Fin 8) (i : Fin n) : EReal :=
  ∑ d : Fin 64, K (ix4 b i h d) * (Q (ix4 b 0 h d) * Ideal.ofBits .bf16 0x3E00#16)

/-- A sum over the 4096 flattened rows, each term weighted by the mask, is the sum over the 512 keys of one head. -/
theorem sum_masked (f : Fin 512 → Fin 8 → EReal) (g : Fin 512 → Fin 8 → EReal) (h : Fin 8) :
    ∑ r : Fin 4096, f ⟨r.val / 8, by omega⟩ ⟨r.val % 8, by omega⟩ * (if r.val % 8 = h.val then 1 else 0) * g ⟨r.val / 8, by omega⟩ ⟨r.val % 8, by omega⟩
      = ∑ i : Fin 512, f i h * g i h := by
  rw [← (finProdFinEquiv (m := 512) (n := 8)).sum_comp, Fintype.sum_prod_type]
  refine Finset.sum_congr rfl fun i _ => ?_
  have hd (a : Fin 8) : (⟨(finProdFinEquiv (m := 512) (n := 8) (i, a)).val / 8, by omega⟩ : Fin 512) = i :=
    Fin.ext (by simp only [finProdFinEquiv_apply_val]; omega)
  have hm (a : Fin 8) : (finProdFinEquiv (m := 512) (n := 8) (i, a)).val % 8 = a.val := by
    simp only [finProdFinEquiv_apply_val]; omega
  rw [Finset.sum_eq_single h]
  · simp only [hd, hm, if_true, mul_one, Fin.eta]
  · intro a _ ha
    simp only [hm, if_neg (fun e => ha (Fin.ext e)), mul_zero, zero_mul]
  · exact fun h' => absurd (Finset.mem_univ _) h'

/-- The masked exponentials that one grid point computes from its blocks. -/
theorem weights_at (k : Vec Ideal S1x512x8x64 .bf16) (q : Vec Ideal S1x1x8x64 .bf16) (r : Fin 4096) (h : Fin 8) :
    k0_pay3 k q (k0_pay2 (F := Ideal)) (ix2 r h)
      = Ideal.exp (∑ d : Fin 64, k (ix4 0 ⟨r.val / 8, by omega⟩ ⟨r.val % 8, by omega⟩ d) * (q (ix4 0 0 h d) * Ideal.ofBits .bf16 0x3E00#16))
        * (if r.val % 8 = h.val then 1 else 0) := by
  rw [← mask_at]
  pointwise [k0_pay3]

/-- The row of numerators that one grid point computes: values weighted by exponentials, summed over the keys. -/
theorem row_numer (k v : Vec Ideal S1x512x8x64 .bf16) (q : Vec Ideal S1x1x8x64 .bf16) (h : Fin 8) (d : Fin 64) :
    k0_pay4 k v q (k0_pay2 (F := Ideal)) (ix3 0 h d)
      = ∑ i : Fin 512, Ideal.exp (∑ d : Fin 64, k (ix4 0 i h d) * (q (ix4 0 0 h d) * Ideal.ofBits .bf16 0x3E00#16)) * v (ix4 0 i h d) := by
  pointwise [k0_pay4]
  simp only [weights_at]
  exact sum_masked (fun i a => Ideal.exp (∑ d : Fin 64, k (ix4 0 i a d) * (q (ix4 0 0 h d) * Ideal.ofBits .bf16 0x3E00#16)))
    (fun i a => v (ix4 0 i a d)) h

/-- The row of denominators: the exponentials summed over the keys. -/
theorem row_denom (k : Vec Ideal S1x512x8x64 .bf16) (q : Vec Ideal S1x1x8x64 .bf16) (h : Fin 8) :
    k0_pay5 k q (k0_pay2 (F := Ideal)) (ix2 0 h)
      = ∑ i : Fin 512, Ideal.exp (∑ d : Fin 64, k (ix4 0 i h d) * (q (ix4 0 0 h d) * Ideal.ofBits .bf16 0x3E00#16)) := by
  pointwise [k0_pay5]
  simp only [weights_at]
  have := sum_masked (fun i a => Ideal.exp (∑ d : Fin 64, k (ix4 0 i a d) * (q (ix4 0 0 h d) * Ideal.ofBits .bf16 0x3E00#16)))
    (fun _ _ => 1) h
  simpa only [mul_one] using this

section Values

variable (m : (ℓ : Loc nD τ sig) → Buf (Elt Ideal) ℓ)

/-- The arrays of device `c`: its queries, its half of the keys and its half of the values. -/
def queries (c : Dev nD) : S8x1x8x64.Idx → EReal := m ((c : Thread nD τ).loc main_arg0)
/-- A device's part of the keys, read as extended reals. -/
def keys (c : Dev nD) : S8x512x8x64.Idx → EReal := m ((c : Thread nD τ).loc main_arg1)
/-- A device's part of the values, read as extended reals. -/
def values (c : Dev nD) : S8x512x8x64.Idx → EReal := m ((c : Thread nD τ).loc main_arg2)

/-- An entry of a query block is an entry of the device's queries. -/
theorem queries_at (c : Dev nD) (b : Fin 8) (h : Fin 8) (d : Fin 64) : qAt m c (pt b) (ix4 0 0 h d) = queries m c (ix4 b 0 h d) := q_at m c b h d
/-- An entry of a key block is an entry of the device's keys. -/
theorem keys_at (c : Dev nD) (b : Fin 8) (i : Fin 512) (h : Fin 8) (d : Fin 64) : kAt m c (pt b) (ix4 0 i h d) = keys m c (ix4 b i h d) := k_at m c b i h d
/-- An entry of a value block is an entry of the device's values. -/
theorem values_at (c : Dev nD) (b : Fin 8) (i : Fin 512) (h : Fin 8) (d : Fin 64) : vAt m c (pt b) (ix4 0 i h d) = values m c (ix4 b i h d) := v_at m c b i h d

/-- The place within its row of an entry of the numerators. -/
theorem inRow3_ix3 (b h : Fin 8) (d : Fin 64) : inRow3 (ix3 b h d) = ix3 0 h d := by
  funext a; match a with | 0 => rfl | 1 => rfl | 2 => rfl
/-- The place within its row of an entry of the denominators. -/
theorem inRow2_ix2 (b h : Fin 8) : inRow2 (ix2 b h) = ix2 0 h := by
  funext a; match a with | 0 => rfl | 1 => rfl

/-- Device `c`'s numerators, for batch `b`: its values weighted by the exponentials of its scores. -/
theorem numer_at (c : Dev nD) (b h : Fin 8) (d : Fin 64) :
    numer m c (ix3 b h d) = ∑ i : Fin 512, Ideal.exp (score (queries m c) (n := 512) (keys m c) b h i) * values m c (ix4 b i h d) := by
  have e : numer m c (ix3 b h d) = rowO m c (pt b) (inRow3 (ix3 b h d)) := rfl
  rw [e, inRow3_ix3]
  unfold rowO
  refine (row_numer (kAt m c (pt b)) (vAt m c (pt b)) (qAt m c (pt b)) h d).trans ?_
  simp only [keys_at, values_at, queries_at, score]

/-- And its denominators: the exponentials summed. -/
theorem denom_at (c : Dev nD) (b h : Fin 8) :
    denom m c (ix2 b h) = ∑ i : Fin 512, Ideal.exp (score (queries m c) (n := 512) (keys m c) b h i) := by
  have e : denom m c (ix2 b h) = rowL m c (pt b) (inRow2 (ix2 b h)) := rfl
  rw [e, inRow2_ix2]
  unfold rowL
  refine (row_denom (kAt m c (pt b)) (qAt m c (pt b)) h).trans ?_
  simp only [keys_at, queries_at, score]

/-- The result on device `c`: the two row mates' numerators added, over their denominators added. -/
theorem quot_at (c : Dev nD) (b h : Fin 8) (d : Fin 64) :
    quot m c (ix4 b 0 h d) = Ideal.div (numer m c (ix3 b h d) + numer m (mate c) (ix3 b h d)) (denom m c (ix2 b h) + denom m (mate c) (ix2 b h)) := by
  unfold quot
  generalize numer m c = x, numer m (mate c) = y, denom m c = u, denom m (mate c) = w
  pointwise [k0_pay1]

end Values

end Cert.Decode

end
-- ==== Proof.Softmax.lean ====
/-
Softmax weighted sums over the extended reals: the weights may be scaled by any one real before they are divided by
their sum.
-/
module

public import Idealize.ShloMosaic.PureOps.Ideal

@[expose] public section

noncomputable section

namespace Cert.Softmax

open Idealize.ShloMosaic

/-- The exponential of a real number. -/
theorem exp_coe (x : ℝ) : Ideal.exp (x : EReal) = ((Real.exp x : ℝ) : EReal) := rfl

/-- Division by a nonzero real is multiplication by its inverse. -/
theorem div_coe (x : EReal) {y : ℝ} (hy : y ≠ 0) : Ideal.div x (y : EReal) = x * ((y⁻¹ : ℝ) : EReal) := by
  unfold Ideal.div
  rw [if_neg (by exact_mod_cast hy), EReal.coe_inv]

/-- A sum of reals is real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of any extended reals. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The largest of finitely many reals, at least one, is real. -/
theorem fold_max_coe {ι : Type} [Fintype ι] [Nonempty ι] (f : ι → ℝ) :
    ∃ M : ℝ, Finset.fold max (⊥ : EReal) (fun i => (f i : EReal)) Finset.univ = (M : EReal) := by
  have hlt : Finset.fold max (⊥ : EReal) (fun i => (f i : EReal)) Finset.univ < ⊤ :=
    (Finset.fold_max_lt _).mpr ⟨bot_lt_top, fun i _ => EReal.coe_lt_top _⟩
  have hgt : ⊥ < Finset.fold max (⊥ : EReal) (fun i => (f i : EReal)) Finset.univ :=
    (Finset.lt_fold_max _).mpr (Or.inr ⟨Classical.arbitrary ι, Finset.mem_univ _, EReal.bot_lt_coe _⟩)
  exact ⟨_, (EReal.coe_toReal hlt.ne hgt.ne').symm⟩

/-- Scores `s`, all real; `M` any real (the reference takes the largest score). The values `v`, which need not be
    finite, weighted by `exp (s i - M)` over the sum of those, are the values weighted by `exp (s i)`, over the sum of those. -/
theorem weighted_sum {ι : Type} [Fintype ι] [Nonempty ι] (s : ι → ℝ) (v : ι → EReal) (M : ℝ) :
    ∑ i, v i * Ideal.div (Ideal.exp ((s i : EReal) - (M : EReal))) (∑ k, Ideal.exp ((s k : EReal) - (M : EReal)))
      = Ideal.div (∑ i, Ideal.exp (s i : EReal) * v i) (∑ i, Ideal.exp (s i : EReal)) := by
  have hL : 0 < ∑ i, Real.exp (s i) := Finset.sum_pos (fun i _ => Real.exp_pos _) Finset.univ_nonempty
  have hM : ∑ i, Real.exp (s i - M) = (∑ i, Real.exp (s i)) * (Real.exp M)⁻¹ := by
    rw [Finset.sum_mul]; exact Finset.sum_congr rfl fun i _ => by rw [Real.exp_sub, div_eq_mul_inv]
  have hL' : (∑ i, Real.exp (s i - M)) ≠ 0 := by rw [hM]; exact mul_ne_zero hL.ne' (inv_ne_zero (Real.exp_pos M).ne')
  simp only [← EReal.coe_sub, exp_coe, sum_coe]
  rw [div_coe _ hL.ne', sum_mul_coe _ _ (inv_nonneg.mpr hL.le)]
  refine Finset.sum_congr rfl fun i _ => ?_
  rw [div_coe _ hL', ← EReal.coe_mul, mul_comm (v i), mul_right_comm, ← EReal.coe_mul]
  congr 2
  rw [hM, Real.exp_sub]
  field_simp

/-- A score of finite queries and keys is real; scaling the query first or the sum last gives the same. -/
theorem score_real {n : ℕ} (q k : Fin n → EReal) (hq : ∀ d, ∃ x : ℝ, q d = x) (hk : ∀ d, ∃ x : ℝ, k d = x) (c : ℝ) :
    ∃ s : ℝ, ∑ d, k d * (q d * (c : EReal)) = s ∧ (∑ d, q d * k d) * (c : EReal) = s := by
  choose q' hq' using hq
  choose k' hk' using hk
  refine ⟨∑ d, k' d * (q' d * c), ?_, ?_⟩
  · simp only [hq', hk', ← EReal.coe_mul, sum_coe]
  · simp only [hq', hk', ← EReal.coe_mul, sum_coe]
    rw [Finset.sum_mul]
    exact congrArg _ (Finset.sum_congr rfl fun d _ => by ring)

/-- A value whose magnitude is below `⊤` is real. -/
theorem real_of_abs_lt {x : EReal} (h : max x (-x) < ⊤) : ∃ r : ℝ, x = r := by
  have h1 : x ≠ ⊤ := fun e => by simp [e] at h
  have h2 : x ≠ ⊥ := fun e => by simp [e] at h
  exact ⟨x.toReal, (EReal.coe_toReal h1 h2).symm⟩

/-- The constants the programs print: an eighth, in either format, and the two infinities. -/
theorem eighth_bf16 : Ideal.ofBits .bf16 0x3E00#16 = ((1 / 8 : ℝ) : EReal) := by
  simp [Ideal.ofBits, Ideal.ieee]
  rw [← EReal.coe_mul]
  norm_num
/-- The 32-bit literal for an eighth is an eighth. -/
theorem eighth_f32 : Ideal.ofBits .f32 0x3E000000#32 = ((1 / 8 : ℝ) : EReal) := by
  simp [Ideal.ofBits, Ideal.ieee]
  rw [← EReal.coe_mul]
  norm_num
/-- The 32-bit literal for minus infinity is the least extended real. -/
theorem bottom_f32 : Ideal.ofBits .f32 0xFF800000#32 = ⊥ := by
  simp [Ideal.ofBits, Ideal.ieee]
/-- The 16-bit literal for infinity is the greatest extended real. -/
theorem top_bf16 : Ideal.ofBits .bf16 0x7F80#16 = ⊤ := by
  simp [Ideal.ofBits, Ideal.ieee]

/-- A sum over 1024 places is the sum over either half and the other, in either order. -/
theorem sum_halves (f : Fin 1024 → EReal) {a b : ℕ} (h : a = 0 ∧ b = 1 ∨ a = 1 ∧ b = 0) :
    (∑ i : Fin 512, f ⟨a * 512 + i.val, by omega⟩) + (∑ i : Fin 512, f ⟨b * 512 + i.val, by omega⟩) = ∑ i, f i := by
  have e : ∑ i, f i = (∑ i : Fin 512, f ⟨0 * 512 + i.val, by omega⟩) + (∑ i : Fin 512, f ⟨1 * 512 + i.val, by omega⟩) := by
    refine (Fin.sum_univ_add (a := 512) (b := 512) f).trans ?_
    congr 1 <;> exact Finset.sum_congr rfl fun i _ => congrArg f (Fin.ext (by simp))
  rcases h with ⟨rfl, rfl⟩ | ⟨rfl, rfl⟩
  · exact e.symm
  · rw [add_comm]; exact e.symm

end Cert.Softmax

end
-- ==== Proof.Value.lean ====
/-
The kernel's result against the reference's, over the extended reals, where the queries and the keys are finite.
-/
module

public import proofs.«01_k».proof.Proof.Frames
public import proofs.«01_k».proof.Proof.KernelValue
public import proofs.«01_k».proof.Proof.Softmax
public import Idealize.ShloMosaic.Lib.LayoutAt

@[expose] public section

noncomputable section

namespace Cert.Decode

open Idealize.ShloMosaic Idealize.ShloMosaic.TcCoe Idealize.SL.Sem

/-! ## The reference -/

section Reference

open Cert.ReferenceIdeal Cert.ReferenceIdeal.Gen

/-- The scores as the reference computes them, products summed and then scaled. -/
def scaled (Q : FVec Ideal S8x1x8x64 .bf16) (K : FVec Ideal S8x1024x8x64 .bf16) : FVec Ideal S8x8x1x1024 .f32 :=
  mulf (Host.dotGeneral dot_S8x1x8x64_S8x1024x8x64_S8x8x1x1024_3_3_1_1_02_02 none (extf .f32 Q bitsLt_bf16_f32) (extf .f32 K bitsLt_bf16_f32))
    (broadcastInDim S8x8x1x1024 ![] bcast_S_S8x8x1x1024 (constant S_ .f32 0x3E000000#32))

/-- A column of one number per batch and head, repeated over the keys. -/
def overKeys (x : FVec Ideal S8x8x1 .f32) : FVec Ideal S8x8x1x1024 .f32 :=
  broadcastInDim S8x8x1x1024 ![0, 1, 2, 3] bcast_S8x8x1x1_S8x8x1x1024_0_1_2_3 (broadcastInDim S8x8x1x1 ![0, 1, 2] bcast_S8x8x1_S8x8x1x1_0_1_2 x)

/-- The exponentials of the scores, the largest score taken off first. -/
def shifted (Q : FVec Ideal S8x1x8x64 .bf16) (K : FVec Ideal S8x1024x8x64 .bf16) : FVec Ideal S8x8x1x1024 .f32 :=
  Host.exp (subf (scaled Q K) (overKeys (Host.reduce FloatOps.maximumf (scaled Q K) (constant S_ .f32 0xFF800000#32) reducesTo_S8x8x1x1024_S8x8x1_d3 h_S_)))

/-- What the reference computes from its three arguments. -/
def attention (Q : FVec Ideal S8x1x8x64 .bf16) (K V : FVec Ideal S8x1024x8x64 .bf16) : FVec Ideal S8x1x8x64 .f32 :=
  transpose S8x1x8x64 [0, 3, 1, 2] (Host.dotGeneral dot_S8x1024x8x64_S8x8x1x1024_S8x8x64x1_1_3_3_2_02_01 none (extf .f32 V bitsLt_bf16_f32)
    (Host.divf (shifted Q K) (overKeys (Host.reduceAdd (shifted Q K) (constant S_ .f32 0x00000000#32) reducesTo_S8x8x1x1024_S8x8x1_d3 h_S_))))
    transposes_S8x8x64x1_S8x1x8x64_0_3_1_2

/-- The reference's scores: products summed, then scaled by an eighth. -/
def refScore (Q : S8x1x8x64.Idx → EReal) (K : S8x1024x8x64.Idx → EReal) (b h : Fin 8) (i : Fin 1024) : EReal :=
  (∑ d : Fin 64, Q (ix4 b 0 h d) * K (ix4 b i h d)) * Ideal.ofBits .f32 0x3E000000#32

/-- The reference at an index: the values weighted by the softmax of the scores. -/
theorem attention_at (Q : S8x1x8x64.Idx → EReal) (K V : S8x1024x8x64.Idx → EReal) (b h : Fin 8) (d : Fin 64) :
    attention Q K V (ix4 b 0 h d) = ∑ i : Fin 1024, V (ix4 b i h d) * Ideal.div
      (Ideal.exp (refScore Q K b h i - Finset.fold max (Ideal.ofBits .f32 0xFF800000#32) (refScore Q K b h) Finset.univ))
      (∑ k : Fin 1024, Ideal.exp (refScore Q K b h k - Finset.fold max (Ideal.ofBits .f32 0xFF800000#32) (refScore Q K b h) Finset.univ)) := by
  unfold refScore
  pointwise [attention, shifted, overKeys, scaled]

/-- With finite queries and keys: the values weighted by the exponentials of the kernel's scores, over the sum of those. -/
theorem attention_finite (Q : S8x1x8x64.Idx → EReal) (K V : S8x1024x8x64.Idx → EReal) (b h : Fin 8) (d : Fin 64)
    (hQ : ∀ x, ∃ r : ℝ, Q x = r) (hK : ∀ x, ∃ r : ℝ, K x = r) :
    attention Q K V (ix4 b 0 h d) = Ideal.div (∑ i : Fin 1024, Ideal.exp (score Q K b h i) * V (ix4 b i h d)) (∑ i : Fin 1024, Ideal.exp (score Q K b h i)) := by
  have hs (i : Fin 1024) : ∃ s : ℝ, score Q K b h i = s ∧ refScore Q K b h i = s := by
    unfold score refScore
    rw [Softmax.eighth_bf16, Softmax.eighth_f32]
    exact Softmax.score_real (fun d => Q (ix4 b 0 h d)) (fun d => K (ix4 b i h d)) (fun _ => hQ _) (fun _ => hK _) _
  choose s hs1 hs2 using hs
  obtain ⟨M, hM⟩ := Softmax.fold_max_coe s
  rw [attention_at, Softmax.bottom_f32, funext hs2, hM]
  simp only [hs1]
  exact Softmax.weighted_sum s (fun i => V (ix4 b i h d)) M

end Reference

/-! ## The kernel's halves of the keys and values -/

section Halves

open Cert.KernelIdeal

/-- Device `c` holds half `c % 2` of an array that is cut along the keys. -/
theorem half_at (c : Dev nD) (X : (⟨4, ![8, 1024, 8, 64]⟩ : Shape).Idx → EReal) (b : Fin 8) (i : Fin 512) (h : Fin 8) (d : Fin 64) :
    Layout.blockN ⟨4, ![8, 512, 8, 64]⟩ ⟨4, ![8, 1024, 8, 64]⟩ (Layout.meshBlock [2, 2] ![[], [1], [], []] c) X (by decide) (ix4 b i h d)
      = X (ix4 b ⟨c.val % 2 * 512 + i.val, by omega⟩ h d) := by
  fin_cases c <;> shard_ext

/-- A device and its row mate hold the two halves. -/
theorem halves : ∀ c : Dev nD, c.val % 2 = 0 ∧ (mate c).val % 2 = 1 ∨ c.val % 2 = 1 ∧ (mate c).val % 2 = 0 := by decide

/-- The result of the kernel on any device: whole-array sums, the row mates' halves put together. -/
theorem quot_whole (m : (ℓ : Loc nD τ sig) → Buf (Elt Ideal) ℓ) (Q : S8x1x8x64.Idx → EReal) (K V : (⟨4, ![8, 1024, 8, 64]⟩ : Shape).Idx → EReal)
    (hq : ∀ c, queries m c = Q)
    (hk : ∀ c b i h d, keys m c (ix4 b i h d) = K (ix4 b ⟨c.val % 2 * 512 + i.val, by omega⟩ h d))
    (hv : ∀ c b i h d, values m c (ix4 b i h d) = V (ix4 b ⟨c.val % 2 * 512 + i.val, by omega⟩ h d))
    (c : Dev nD) (b h : Fin 8) (d : Fin 64) :
    quot m c (ix4 b 0 h d) = Ideal.div (∑ i : Fin 1024, Ideal.exp (score Q K b h i) * V (ix4 b i h d)) (∑ i : Fin 1024, Ideal.exp (score Q K b h i)) := by
  have hs (c : Dev nD) (i : Fin 512) : score (queries m c) (n := 512) (keys m c) b h i = score Q K b h ⟨c.val % 2 * 512 + i.val, by omega⟩ := by
    unfold score
    simp only [hq, hk]
  rw [quot_at, numer_at, numer_at, denom_at, denom_at]
  simp only [hs, hv]
  rw [Softmax.sum_halves (fun i => Ideal.exp (score Q K b h i) * V (ix4 b i h d)) (halves c),
    Softmax.sum_halves (fun i => Ideal.exp (score Q K b h i)) (halves c)]

end Halves

/-! ## The claim -/

/-- The precondition on one device says that its queries and keys are real numbers. -/
theorem finite_at (Q : FVec Ideal KernelIdeal.S8x1x8x64 .bf16) (K V : FVec Ideal KernelIdeal.S8x512x8x64 .bf16)
    (hp : Cert.Pre_finite_KernelIdeal.fn (F := Ideal) Q K V = fun _ => 1#1) (b : Fin 8) (i : Fin 512) (h : Fin 8) (d : Fin 64) :
    (∃ r : ℝ, (Q (ix4 b 0 h d) : EReal) = r) ∧ ∃ r : ℝ, (K (ix4 b i h d) : EReal) = r := by
  have e := congrFun hp (ix4 b i h d)
  pointwise [Cert.Pre_finite_KernelIdeal.fn] at e
  rw [Softmax.top_bf16] at e
  have key : ∀ p q : Bool, IntOp.andi (BitVec.ofBool p) (BitVec.ofBool q) = 1#1 → p = true ∧ q = true := by decide
  obtain ⟨e1, e2⟩ := key _ _ e
  exact ⟨Softmax.real_of_abs_lt (of_decide_eq_true e1), Softmax.real_of_abs_lt (of_decide_eq_true e2)⟩

/-- The kernel's result array on any device is what the reference computes from the whole arrays. -/
theorem quot_eq_attention (m : (ℓ : Loc KernelIdeal.nD KernelIdeal.τ KernelIdeal.sig) → Buf (Elt Ideal) ℓ)
    (hpre : Cert.Pre_KernelIdeal_finite_KernelIdeal m) (Q : FVec Ideal ReferenceIdeal.S8x1x8x64 .bf16) (K V : FVec Ideal ReferenceIdeal.S8x1024x8x64 .bf16)
    (hq : ∀ c, queries m c = Q)
    (hk : ∀ c, keys m c = Layout.blockN ⟨4, ![8, 512, 8, 64]⟩ ⟨4, ![8, 1024, 8, 64]⟩ (Layout.meshBlock [2, 2] ![[], [1], [], []] c) K (by decide))
    (hv : ∀ c, values m c = Layout.blockN ⟨4, ![8, 512, 8, 64]⟩ ⟨4, ![8, 1024, 8, 64]⟩ (Layout.meshBlock [2, 2] ![[], [1], [], []] c) V (by decide))
    (c : Dev KernelIdeal.nD) : quot m c = attention Q K V := by
  have hk' (c : Dev KernelIdeal.nD) (b : Fin 8) (i : Fin 512) (h : Fin 8) (d : Fin 64) :
      keys m c (ix4 b i h d) = K (ix4 b ⟨c.val % 2 * 512 + i.val, by omega⟩ h d) := (congrFun (hk c) _).trans (half_at c K b i h d)
  have hv' (c : Dev KernelIdeal.nD) (b : Fin 8) (i : Fin 512) (h : Fin 8) (d : Fin 64) :
      values m c (ix4 b i h d) = V (ix4 b ⟨c.val % 2 * 512 + i.val, by omega⟩ h d) := (congrFun (hv c) _).trans (half_at c V b i h d)
  have fin (c : Dev KernelIdeal.nD) := finite_at (queries m c) (keys m c) (values m c) (hpre c)
  have unit (a : Fin 1) : a = 0 := Subsingleton.elim _ _
  have hQ (x : ReferenceIdeal.S8x1x8x64.Idx) : ∃ r : ℝ, (Q x : EReal) = r := by
    obtain ⟨r, hr⟩ := (fin 0 (x 0) 0 (x 2) (x 3)).1
    refine ⟨r, ?_⟩
    rw [eq_ix4 x, unit (x 1), ← hq 0]
    exact hr
  have hK (x : ReferenceIdeal.S8x1024x8x64.Idx) : ∃ r : ℝ, (K x : EReal) = r := by
    have hx : (x 1).val < 1024 := (x 1).isLt
    obtain ⟨r, hr⟩ := (fin ⟨(x 1).val / 512, by show _ < 4; omega⟩ (x 0) ⟨(x 1).val % 512, Nat.mod_lt _ (by decide)⟩ (x 2) (x 3)).2
    refine ⟨r, Eq.trans ?_ ((hk' _ _ _ _ _).symm.trans hr)⟩
    refine (congrArg K (eq_ix4 x)).trans (congrArg (fun i => K (ix4 (x 0) i (x 2) (x 3))) (Fin.ext ?_))
    show (x 1).val = (x 1).val / 512 % 2 * 512 + (x 1).val % 512
    omega
  funext x
  rw [eq_ix4 x, unit (x 1)]
  exact (quot_whole m Q K V hq hk' hv' c (x 0) (x 2) (x 3)).trans (attention_finite Q K V (x 0) (x 2) (x 3) hQ hK).symm

/-- Kernel and reference compute one function over the extended reals, where queries and keys are finite. -/
theorem same_function : Cert.algebraic_KernelIdeal_ReferenceIdeal_pre_finite_KernelIdeal := fun m g m' g' hpre hagree =>
  ⟨attention (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2)),
    (θ_run KernelIdeal.defs _ _).mono
      (fun r h c => ⟨((h.1 c 3).trans (final_out m c)).trans
          (quot_eq_attention m hpre _ _ _ (fun c => (hagree c).1) (fun c => (hagree c).2.1) (fun c => (hagree c).2.2) c),
        (h.1 c 0).trans (final_in m c 0 rfl), (h.1 c 1).trans (final_in m c 1 rfl), (h.1 c 2).trans (final_in m c 2 rfl)⟩)
      (run_main (F := Ideal) m g),
    (θ_run ReferenceIdeal.defs _ _).mono (fun _ h => h 0) (Cert.ReferenceIdeal.Value.run m' g')⟩

end Cert.Decode

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed. A frame under a precondition is the frame without it. -/
theorem claim : Cert.Claim :=
  ⟨Cert.Kernel.Gen.facts, Cert.KernelIdeal.Gen.facts, Cert.ReferenceIdeal.Gen.facts, Cert.Decode.finite_kernel_facts, Cert.Decode.finite_reference_facts,
    Cert.Decode.frame_kernel, Cert.Decode.frame_ideal, fun m g _ => Cert.Decode.frame_ideal m g trivial,
    Cert.Decode.frame_reference, fun m g _ => Cert.Decode.frame_reference m g trivial,
    trivial, Cert.Decode.same_function⟩

end Cert.Proof

end
